-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norms_positive [hPre_norms_positive : Cert.Pre_norms_positive.Facts] (m : (ℓ : Loc Cert.KernelIdeal.nD Cert.KernelIdeal.τ Cert.KernelIdeal.sig) → Buf (Elt Ideal) ℓ) : Prop :=
  ∀ c : Dev Cert.KernelIdeal.nD,
    (Cert.Pre_norms_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norms_positive [hPre_norms_positive : Cert.Pre_norms_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norms_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_norms_positive [hKernelIdeal : Cert.KernelIdeal.Facts] [hPre_norms_positive : Cert.Pre_norms_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norms_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_norms_positive [hReferenceIdeal : Cert.ReferenceIdeal.Facts] [hPre_norms_positive : Cert.Pre_norms_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norms_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_only_dx [hKernelIdeal : Cert.KernelIdeal.Facts] [hReferenceIdeal : Cert.ReferenceIdeal.Facts] [hOn_only_dx : Cert.On_only_dx.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![24, 512, 2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v6) i = v0 c i)
          ∧ (∀ i : (⟨2, ![2048, 8]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v5_1) i = v1 c i)
          ∧ (∀ i : (⟨2, ![8, 8192]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v5_2) i = v2 c i)
          ∧ (∀ i : (⟨1, ![8192]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v7) i = v3 c i)
          ∧ (∀ i : (⟨2, ![2048, 8]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.KernelIdeal.nD Cert.KernelIdeal.τ).loc Cert.KernelIdeal.main_v14) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![24, 512, 2048]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v0_0) i = v0 c i)
          ∧ (∀ i : (⟨2, ![2048, 8]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v0_1) i = v1 c i)
          ∧ (∀ i : (⟨2, ![8, 8192]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v0_2) i = v2 c i)
          ∧ (∀ i : (⟨1, ![8192]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v0_3) i = v3 c i)
          ∧ (∀ i : (⟨2, ![2048, 8]⟩ : Shape).Idx, (Cert.On_only_dx.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.ReferenceIdeal.nD Cert.ReferenceIdeal.τ).loc Cert.ReferenceIdeal.main_v7) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_KernelIdeal_ReferenceIdeal_on_db_and_dm_pre_norms_positive [hKernelIdeal : Cert.KernelIdeal.Facts] [hReferenceIdeal : Cert.ReferenceIdeal.Facts] [hPre_norms_positive : Cert.Pre_norms_positive.Facts] [hOn_db_and_dm : Cert.On_db_and_dm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norms_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![24, 512, 2048]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v6) i = v0 c i)
          ∧ (∀ i : (⟨2, ![2048, 8]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v5_1) i = v1 c i)
          ∧ (∀ i : (⟨2, ![8, 8192]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v5_2) i = v2 c i)
          ∧ (∀ i : (⟨1, ![8192]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v7) i = v3 c i)
          ∧ (∀ i : (⟨2, ![2048, 8]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.KernelIdeal.nD Cert.KernelIdeal.τ).loc Cert.KernelIdeal.main_v14) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![24, 512, 2048]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v0_0) i = v0 c i)
          ∧ (∀ i : (⟨2, ![2048, 8]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v0_1) i = v1 c i)
          ∧ (∀ i : (⟨2, ![8, 8192]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v0_2) i = v2 c i)
          ∧ (∀ i : (⟨1, ![8192]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v0_3) i = v3 c i)
          ∧ (∀ i : (⟨2, ![2048, 8]⟩ : Shape).Idx, (Cert.On_db_and_dm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.ReferenceIdeal.nD Cert.ReferenceIdeal.τ).loc Cert.ReferenceIdeal.main_v7) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def algebraic_KernelIdeal_ReferenceIdeal_on_guarded_da_pre_weights_finite [hKernelIdeal : Cert.KernelIdeal.Facts] [hReferenceIdeal : Cert.ReferenceIdeal.Facts] [hPre_weights_finite : Cert.Pre_weights_finite.Facts] [hOn_guarded_da : Cert.On_guarded_da.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![24, 512, 2048]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.KernelIdeal.nD Cert.KernelIdeal.τ).loc Cert.KernelIdeal.main_v6) i = v0 c i)
          ∧ (∀ i : (⟨2, ![2048, 8]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.KernelIdeal.nD Cert.KernelIdeal.τ).loc Cert.KernelIdeal.main_v5_1) i = v1 c i)
          ∧ (∀ i : (⟨2, ![8, 8192]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.KernelIdeal.nD Cert.KernelIdeal.τ).loc Cert.KernelIdeal.main_v5_2) i = v2 c i)
          ∧ (∀ i : (⟨1, ![8192]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.KernelIdeal.nD Cert.KernelIdeal.τ).loc Cert.KernelIdeal.main_v7) i = v3 c i)
          ∧ (∀ i : (⟨2, ![2048, 8]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.KernelIdeal.nD Cert.KernelIdeal.τ).loc Cert.KernelIdeal.main_v14) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![24, 512, 2048]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 i = 1#1 → r.2.mem ((c.tc : Thread Cert.ReferenceIdeal.nD Cert.ReferenceIdeal.τ).loc Cert.ReferenceIdeal.main_v0_0) i = v0 c i)
          ∧ (∀ i : (⟨2, ![2048, 8]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 i = 1#1 → r.2.mem ((c.tc : Thread Cert.ReferenceIdeal.nD Cert.ReferenceIdeal.τ).loc Cert.ReferenceIdeal.main_v0_1) i = v1 c i)
          ∧ (∀ i : (⟨2, ![8, 8192]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 i = 1#1 → r.2.mem ((c.tc : Thread Cert.ReferenceIdeal.nD Cert.ReferenceIdeal.τ).loc Cert.ReferenceIdeal.main_v0_2) i = v2 c i)
          ∧ (∀ i : (⟨1, ![8192]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 i = 1#1 → r.2.mem ((c.tc : Thread Cert.ReferenceIdeal.nD Cert.ReferenceIdeal.τ).loc Cert.ReferenceIdeal.main_v0_3) i = v3 c i)
          ∧ (∀ i : (⟨2, ![2048, 8]⟩ : Shape).Idx, (Cert.On_guarded_da.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2 i = 1#1 → r.2.mem ((c.tc : Thread Cert.ReferenceIdeal.nD Cert.ReferenceIdeal.τ).loc Cert.ReferenceIdeal.main_v7) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_norms_positive : Cert.Pre_norms_positive.Facts) (hPre_weights_finite : Cert.Pre_weights_finite.Facts) (hOn_only_dx : Cert.On_only_dx.Facts) (hOn_db_and_dm : Cert.On_db_and_dm.Facts) (hOn_guarded_da : Cert.On_guarded_da.Facts),
    quiescent_Kernel (hKernel := hKernel)
    ∧ quiescent_KernelIdeal (hKernelIdeal := hKernelIdeal)
    ∧ quiescent_KernelIdeal_pre_norms_positive (hKernelIdeal := hKernelIdeal) (hPre_norms_positive := hPre_norms_positive)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_norms_positive (hReferenceIdeal := hReferenceIdeal) (hPre_norms_positive := hPre_norms_positive)
    ∧ quiescent_ReferenceIdeal_pre_weights_finite (hReferenceIdeal := hReferenceIdeal) (hPre_weights_finite := hPre_weights_finite)
    ∧ preserves_Kernel_KernelIdeal
    ∧ algebraic_KernelIdeal_ReferenceIdeal_on_only_dx (hKernelIdeal := hKernelIdeal) (hReferenceIdeal := hReferenceIdeal) (hOn_only_dx := hOn_only_dx)
    ∧ algebraic_KernelIdeal_ReferenceIdeal_on_db_and_dm_pre_norms_positive (hKernelIdeal := hKernelIdeal) (hReferenceIdeal := hReferenceIdeal) (hPre_norms_positive := hPre_norms_positive) (hOn_db_and_dm := hOn_db_and_dm)
    ∧ algebraic_KernelIdeal_ReferenceIdeal_on_guarded_da_pre_weights_finite (hKernelIdeal := hKernelIdeal) (hReferenceIdeal := hReferenceIdeal) (hPre_weights_finite := hPre_weights_finite) (hOn_guarded_da := hOn_guarded_da)
-- ==== On_db_and_dm.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S_ : Shape := ⟨0, ![]⟩

class Facts : Prop where
  bcast_S_S24x512x2048 : S_.BroadcastsInDim S24x512x2048 (![] : Fin 0 → Fin S24x512x2048.rank)
  bcast_S_S2048x8 : S_.BroadcastsInDim S2048x8 (![] : Fin 0 → Fin S2048x8.rank)
  bcast_S_S8x8192 : S_.BroadcastsInDim S8x8192 (![] : Fin 0 → Fin S8x8192.rank)
  bcast_S_S8192 : S_.BroadcastsInDim S8192 (![] : Fin 0 → Fin S8192.rank)

variable [Facts]

def fn {F : FTy → Type} [FloatOps F] (main_arg0 : FVec F S24x512x8192 .bf16) (main_arg1 : FVec F S24x512x2048 .fp8e4m3) (main_arg2 : FVec F S24x512 .f32) (main_arg3 : IVec S1024x8192 8) (main_arg4 : FVec F S16x8192 .bf16) (main_arg5 : FVec F S2048x8 .bf16) (main_arg6 : FVec F S8x8192 .bf16) (main_arg7 : FVec F S8192 .f32) (main_arg8 : FVec F S8192 .f32) : IVec S24x512x2048 1 × IVec S2048x8 1 × IVec S8x8192 1 × IVec S8192 1 × IVec S2048x8 1 :=
  let main_c : IVec S_ 1 := constantI S_ 1 0#1
  let main_v0 : IVec S24x512x2048 1 := broadcastInDim S24x512x2048 ![] bcast_S_S24x512x2048 main_c
  let main_c_0 : IVec S_ 1 := constantI S_ 1 0#1
  let main_v1 : IVec S2048x8 1 := broadcastInDim S2048x8 ![] bcast_S_S2048x8 main_c_0
  let main_c_1 : IVec S_ 1 := constantI S_ 1 1#1
  let main_v2 : IVec S8x8192 1 := broadcastInDim S8x8192 ![] bcast_S_S8x8192 main_c_1
  let main_c_2 : IVec S_ 1 := constantI S_ 1 1#1
  let main_v3 : IVec S8192 1 := broadcastInDim S8192 ![] bcast_S_S8192 main_c_2
  let main_c_3 : IVec S_ 1 := constantI S_ 1 0#1
  let main_v4 : IVec S2048x8 1 := broadcastInDim S2048x8 ![] bcast_S_S2048x8 main_c_3
  (main_v0, main_v1, main_v2, main_v3, main_v4)
-- ==== On_guarded_da.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S_ : Shape := ⟨0, ![]⟩

class Facts : Prop where
  bcast_S_S24x512x2048 : S_.BroadcastsInDim S24x512x2048 (![] : Fin 0 → Fin S24x512x2048.rank)
  bcast_S_S2048x8 : S_.BroadcastsInDim S2048x8 (![] : Fin 0 → Fin S2048x8.rank)
  bcast_S_S8x8192 : S_.BroadcastsInDim S8x8192 (![] : Fin 0 → Fin S8x8192.rank)
  bcast_S_S8192 : S_.BroadcastsInDim S8192 (![] : Fin 0 → Fin S8192.rank)

variable [Facts]

def fn {F : FTy → Type} [FloatOps F] (main_arg0 : FVec F S24x512x8192 .bf16) (main_arg1 : FVec F S24x512x2048 .fp8e4m3) (main_arg2 : FVec F S24x512 .f32) (main_arg3 : IVec S1024x8192 8) (main_arg4 : FVec F S16x8192 .bf16) (main_arg5 : FVec F S2048x8 .bf16) (main_arg6 : FVec F S8x8192 .bf16) (main_arg7 : FVec F S8192 .f32) (main_arg8 : FVec F S8192 .f32) : IVec S24x512x2048 1 × IVec S2048x8 1 × IVec S8x8192 1 × IVec S8192 1 × IVec S2048x8 1 :=
  let main_c : IVec S_ 1 := constantI S_ 1 0#1
  let main_v0 : IVec S24x512x2048 1 := broadcastInDim S24x512x2048 ![] bcast_S_S24x512x2048 main_c
  let main_c_0 : IVec S_ 1 := constantI S_ 1 0#1
  let main_v1 : IVec S2048x8 1 := broadcastInDim S2048x8 ![] bcast_S_S2048x8 main_c_0
  let main_c_1 : IVec S_ 1 := constantI S_ 1 0#1
  let main_v2 : IVec S8x8192 1 := broadcastInDim S8x8192 ![] bcast_S_S8x8192 main_c_1
  let main_c_2 : IVec S_ 1 := constantI S_ 1 0#1
  let main_v3 : IVec S8192 1 := broadcastInDim S8192 ![] bcast_S_S8192 main_c_2
  let main_c_3 : IVec S_ 1 := constantI S_ 1 1#1
  let main_v4 : IVec S2048x8 1 := broadcastInDim S2048x8 ![] bcast_S_S2048x8 main_c_3
  (main_v0, main_v1, main_v2, main_v3, main_v4)
-- ==== On_only_dx.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S_ : Shape := ⟨0, ![]⟩

class Facts : Prop where
  bcast_S_S24x512x2048 : S_.BroadcastsInDim S24x512x2048 (![] : Fin 0 → Fin S24x512x2048.rank)
  bcast_S_S2048x8 : S_.BroadcastsInDim S2048x8 (![] : Fin 0 → Fin S2048x8.rank)
  bcast_S_S8x8192 : S_.BroadcastsInDim S8x8192 (![] : Fin 0 → Fin S8x8192.rank)
  bcast_S_S8192 : S_.BroadcastsInDim S8192 (![] : Fin 0 → Fin S8192.rank)

variable [Facts]

def fn {F : FTy → Type} [FloatOps F] (main_arg0 : FVec F S24x512x8192 .bf16) (main_arg1 : FVec F S24x512x2048 .fp8e4m3) (main_arg2 : FVec F S24x512 .f32) (main_arg3 : IVec S1024x8192 8) (main_arg4 : FVec F S16x8192 .bf16) (main_arg5 : FVec F S2048x8 .bf16) (main_arg6 : FVec F S8x8192 .bf16) (main_arg7 : FVec F S8192 .f32) (main_arg8 : FVec F S8192 .f32) : IVec S24x512x2048 1 × IVec S2048x8 1 × IVec S8x8192 1 × IVec S8192 1 × IVec S2048x8 1 :=
  let main_c : IVec S_ 1 := constantI S_ 1 1#1
  let main_v0 : IVec S24x512x2048 1 := broadcastInDim S24x512x2048 ![] bcast_S_S24x512x2048 main_c
  let main_c_0 : IVec S_ 1 := constantI S_ 1 0#1
  let main_v1 : IVec S2048x8 1 := broadcastInDim S2048x8 ![] bcast_S_S2048x8 main_c_0
  let main_c_1 : IVec S_ 1 := constantI S_ 1 0#1
  let main_v2 : IVec S8x8192 1 := broadcastInDim S8x8192 ![] bcast_S_S8x8192 main_c_1
  let main_c_2 : IVec S_ 1 := constantI S_ 1 0#1
  let main_v3 : IVec S8192 1 := broadcastInDim S8192 ![] bcast_S_S8192 main_c_2
  let main_c_3 : IVec S_ 1 := constantI S_ 1 0#1
  let main_v4 : IVec S2048x8 1 := broadcastInDim S2048x8 ![] bcast_S_S2048x8 main_c_3
  (main_v0, main_v1, main_v2, main_v3, main_v4)
-- ==== Pre_norms_positive.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S24x512x8192 .bf16) (main_arg1 : FVec F S24x512x2048 .fp8e4m3) (main_arg2 : FVec F S24x512 .f32) (main_arg3 : IVec S1024x8192 8) (main_arg4 : FVec F S16x8192 .bf16) (main_arg5 : FVec F S2048x8 .bf16) (main_arg6 : FVec F S8x8192 .bf16) (main_arg7 : FVec F S8192 .f32) (main_arg8 : FVec F S8192 .f32) : IVec S8192 1 :=
  let main_cst : FVec F S_ .f32 := constant S_ .f32 0x00000000#32
  let main_v0 : FVec F S8192 .f32 := broadcastInDim S8192 ![] bcast_S_S8192 main_cst
  let main_v1 : IVec S8192 1 := cmpf .ogt main_arg8 main_v0
  main_v1
-- ==== Pre_weights_finite.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S_ : Shape := ⟨0, ![]⟩

class Facts : Prop where
  bcast_S_S16x8192 : S_.BroadcastsInDim S16x8192 (![] : Fin 0 → Fin S16x8192.rank)
  bcast_S_S2048x8 : S_.BroadcastsInDim S2048x8 (![] : Fin 0 → Fin S2048x8.rank)
  bcast_S_S8x8192 : S_.BroadcastsInDim S8x8192 (![] : Fin 0 → Fin S8x8192.rank)
  bcast_S_S8192 : S_.BroadcastsInDim S8192 (![] : Fin 0 → Fin S8192.rank)

variable [Facts]

def fn {F : FTy → Type} [FloatOps F] (main_arg0 : FVec F S24x512x8192 .bf16) (main_arg1 : FVec F S24x512x2048 .fp8e4m3) (main_arg2 : FVec F S24x512 .f32) (main_arg3 : IVec S1024x8192 8) (main_arg4 : FVec F S16x8192 .bf16) (main_arg5 : FVec F S2048x8 .bf16) (main_arg6 : FVec F S8x8192 .bf16) (main_arg7 : FVec F S8192 .f32) (main_arg8 : FVec F S8192 .f32) : IVec S16x8192 1 × IVec S2048x8 1 × IVec S8x8192 1 × IVec S8192 1 :=
  let main_v0 : FVec F S16x8192 .bf16 := Host.absf main_arg4
  let main_cst : FVec F S_ .bf16 := constant S_ .bf16 0x7F80#16
  let main_v1 : FVec F S16x8192 .bf16 := broadcastInDim S16x8192 ![] bcast_S_S16x8192 main_cst
  let main_v2 : IVec S16x8192 1 := cmpf .olt main_v0 main_v1
  let main_v3 : FVec F S2048x8 .bf16 := Host.absf main_arg5
  let main_cst_0 : FVec F S_ .bf16 := constant S_ .bf16 0x7F80#16
  let main_v4 : FVec F S2048x8 .bf16 := broadcastInDim S2048x8 ![] bcast_S_S2048x8 main_cst_0
  let main_v5 : IVec S2048x8 1 := cmpf .olt main_v3 main_v4
  let main_v6 : FVec F S8x8192 .bf16 := Host.absf main_arg6
  let main_cst_1 : FVec F S_ .bf16 := constant S_ .bf16 0x7F80#16
  let main_v7 : FVec F S8x8192 .bf16 := broadcastInDim S8x8192 ![] bcast_S_S8x8192 main_cst_1
  let main_v8 : IVec S8x8192 1 := cmpf .olt main_v6 main_v7
  let main_v9 : FVec F S8192 .f32 := Host.absf main_arg7
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  (main_v2, main_v5, main_v8, main_v11)
-- ==== Kernel.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S12288x8192 : Shape := ⟨2, ![12288, 8192]⟩
abbrev S12288x2048 : Shape := ⟨2, ![12288, 2048]⟩
abbrev S12288x1 : Shape := ⟨2, ![12288, 1]⟩
abbrev S1x8192 : Shape := ⟨2, ![1, 8192]⟩
abbrev S256x8192 : Shape := ⟨2, ![256, 8192]⟩
abbrev S256x2048 : Shape := ⟨2, ![256, 2048]⟩
abbrev S256x1 : Shape := ⟨2, ![256, 1]⟩
abbrev S2048x8192 : Shape := ⟨2, ![2048, 8192]⟩
abbrev S256x8 : Shape := ⟨2, ![256, 8]⟩
abbrev S64x512 : Shape := ⟨2, ![64, 512]⟩
abbrev S128x512 : Shape := ⟨2, ![128, 512]⟩
abbrev S1x512 : Shape := ⟨2, ![1, 512]⟩
abbrev S128x8 : Shape := ⟨2, ![128, 8]⟩
abbrev S8x512 : Shape := ⟨2, ![8, 512]⟩
abbrev S256x512 : Shape := ⟨2, ![256, 512]⟩
abbrev S2048x512 : Shape := ⟨2, ![2048, 512]⟩
abbrev S512 : Shape := ⟨1, ![512]⟩
abbrev S512x8192 : Shape := ⟨2, ![512, 8192]⟩
abbrev S_ : Shape := ⟨0, ![]⟩

abbrev nBuf : Space → Nat
  | .hbm => 30
  | .vmem => 25
  | .smem => 0
  | _ => 0

abbrev bufTy : (tb : Table) → Fin (tcTables nBuf tb) → BufTy
  | .hbm, ⟨0, _⟩ => ⟨S24x512x8192, .bf16⟩
  | .hbm, ⟨1, _⟩ => ⟨S24x512x2048, .fp8e4m3⟩
  | .hbm, ⟨2, _⟩ => ⟨S24x512, .f32⟩
  | .hbm, ⟨3, _⟩ => ⟨S1024x8192, .i8⟩
  | .hbm, ⟨4, _⟩ => ⟨S16x8192, .bf16⟩
  | .hbm, ⟨5, _⟩ => ⟨S2048x8, .bf16⟩
  | .hbm, ⟨6, _⟩ => ⟨S8x8192, .bf16⟩
  | .hbm, ⟨7, _⟩ => ⟨S8192, .f32⟩
  | .hbm, ⟨8, _⟩ => ⟨S8192, .f32⟩
  | .hbm, ⟨9, _⟩ => ⟨S12288x8192, .bf16⟩
  | .hbm, ⟨10, _⟩ => ⟨S12288x2048, .fp8e4m3⟩
  | .hbm, ⟨11, _⟩ => ⟨S12288x1, .f32⟩
  | .hbm, ⟨12, _⟩ => ⟨S1x8192, .f32⟩
  | .hbm, ⟨13, _⟩ => ⟨S1x8192, .f32⟩
  | .hbm, ⟨14, _⟩ => ⟨S12288x2048, .bf16⟩
  | .hbm, ⟨15, _⟩ => ⟨S2048x8, .bf16⟩
  | .hbm, ⟨16, _⟩ => ⟨S8x8192, .bf16⟩
  | .hbm, ⟨17, _⟩ => ⟨S1x8192, .f32⟩
  | .hbm, ⟨18, _⟩ => ⟨S24x512x2048, .bf16⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .i1⟩
  | .hbm, ⟨24, _⟩ => ⟨S_, .i1⟩
  | .hbm, ⟨25, _⟩ => ⟨S_, .i1⟩
  | .hbm, ⟨26, _⟩ => ⟨S2048x8, .i1⟩
  | .hbm, ⟨27, _⟩ => ⟨S_, .bf16⟩
  | .hbm, ⟨28, _⟩ => ⟨S2048x8, .bf16⟩
  | .hbm, ⟨29, _⟩ => ⟨S2048x8, .bf16⟩
  | .local _ .vmem, ⟨0, _⟩ => ⟨S256x8192, .bf16⟩
  | .local _ .vmem, ⟨1, _⟩ => ⟨S256x8192, .bf16⟩
  | .local _ .vmem, ⟨2, _⟩ => ⟨S256x2048, .fp8e4m3⟩
  | .local _ .vmem, ⟨3, _⟩ => ⟨S256x2048, .fp8e4m3⟩
  | .local _ .vmem, ⟨4, _⟩ => ⟨S256x1, .f32⟩
  | .local _ .vmem, ⟨5, _⟩ => ⟨S256x1, .f32⟩
  | .local _ .vmem, ⟨6, _⟩ => ⟨S1024x8192, .i8⟩
  | .local _ .vmem, ⟨7, _⟩ => ⟨S16x8192, .bf16⟩
  | .local _ .vmem, ⟨8, _⟩ => ⟨S2048x8, .bf16⟩
  | .local _ .vmem, ⟨9, _⟩ => ⟨S8x8192, .bf16⟩
  | .local _ .vmem, ⟨10, _⟩ => ⟨S1x8192, .f32⟩
  | .local _ .vmem, ⟨11, _⟩ => ⟨S1x8192, .f32⟩
  | .local _ .vmem, ⟨12, _⟩ => ⟨S256x2048, .bf16⟩
  | .local _ .vmem, ⟨13, _⟩ => ⟨S256x2048, .bf16⟩
  | .local _ .vmem, ⟨14, _⟩ => ⟨S2048x8, .bf16⟩
  | .local _ .vmem, ⟨15, _⟩ => ⟨S8x8192, .bf16⟩
  | .local _ .vmem, ⟨16, _⟩ => ⟨S1x8192, .f32⟩
  | .local _ .vmem, ⟨17, _⟩ => ⟨S2048x8192, .bf16⟩
  | .local _ .vmem, ⟨18, _⟩ => ⟨S256x8192, .bf16⟩
  | .local _ .vmem, ⟨19, _⟩ => ⟨S256x2048, .bf16⟩
  | .local _ .vmem, ⟨20, _⟩ => ⟨S256x8, .f32⟩
  | .local _ .vmem, ⟨21, _⟩ => ⟨S1x8192, .f32⟩
  | .local _ .vmem, ⟨22, _⟩ => ⟨S2048x8, .f32⟩
  | .local _ .vmem, ⟨23, _⟩ => ⟨S8x8192, .f32⟩
  | .local _ .vmem, ⟨24, _⟩ => ⟨S1x8192, .f32⟩
  | _, _ => ⟨S24x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_scratch6 : Ref sig .tc := ⟨.vmem, 23, rfl⟩
abbrev cc0_scratch7 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_43 : BitVec 32 := 0#32
  let c16_i32_44 : BitVec 32 := 16#32
  let v58 : BitVec 32 := Scalar.addi c0_i32_43 c16_i32_44
  let c1_i32_45 : BitVec 32 := 1#32
  ⟨c0_i32_43, v58, c1_i32_45⟩
def k0_mult1 (k0_t1 : Fin k0_t1_loop.trips) : BitVec 32 :=
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  v59
def k0_off1 (k0_t1 : Fin k0_t1_loop.trips) : Fin 2 → Nat :=
  let c0_47 : Index := 0#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v61 : Index := Scalar.indexCast v60
  ![0, v61.toNat]
def k0_off2 (k0_t1 : Fin k0_t1_loop.trips) : Fin 2 → Nat :=
  let c0_49 : Index := 0#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v74 : Index := Scalar.indexCast v60
  ![0, v74.toNat]
def k0_off3 (k0_t1 : Fin k0_t1_loop.trips) : Fin 2 → Nat :=
  let c0_52 : Index := 0#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v79 : Index := Scalar.indexCast v60
  ![0, v79.toNat]
def k0_off4 (k0_t1 : Fin k0_t1_loop.trips) : Fin 2 → Nat :=
  let c0_55 : Index := 0#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v87 : Index := Scalar.indexCast v60
  ![0, v87.toNat]
def k0_off5 (k0_t1 : Fin k0_t1_loop.trips) : Fin 2 → Nat :=
  let c64 : Index := 64#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v91 : Index := Scalar.indexCast v60
  ![64, v91.toNat]
def k0_off6 (k0_t1 : Fin k0_t1_loop.trips) : Fin 2 → Nat :=
  let c1 : Index := 1#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v104 : Index := Scalar.indexCast v60
  ![1, v104.toNat]
def k0_off7 (k0_t1 : Fin k0_t1_loop.trips) : Fin 2 → Nat :=
  let c128_64 : Index := 128#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v117 : Index := Scalar.indexCast v60
  ![128, v117.toNat]
def k0_off8 (k0_t1 : Fin k0_t1_loop.trips) : Fin 2 → Nat :=
  let c128_65 : Index := 128#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v121 : Index := Scalar.indexCast v60
  ![128, v121.toNat]
def k0_off9 (k0_t1 : Fin k0_t1_loop.trips) : Fin 2 → Nat :=
  let c2 : Index := 2#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v134 : Index := Scalar.indexCast v60
  ![2, v134.toNat]
def k0_off10 (k0_t1 : Fin k0_t1_loop.trips) : Fin 2 → Nat :=
  let c256_74 : Index := 256#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v147 : Index := Scalar.indexCast v60
  ![256, v147.toNat]
def k0_off11 (k0_t1 : Fin k0_t1_loop.trips) : Fin 2 → Nat :=
  let c192 : Index := 192#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v151 : Index := Scalar.indexCast v60
  ![192, v151.toNat]
def k0_off12 (k0_t1 : Fin k0_t1_loop.trips) : Fin 2 → Nat :=
  let c3 : Index := 3#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v164 : Index := Scalar.indexCast v60
  ![3, v164.toNat]
def k0_off13 (k0_t1 : Fin k0_t1_loop.trips) : Fin 2 → Nat :=
  let c384_83 : Index := 384#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v177 : Index := Scalar.indexCast v60
  ![384, v177.toNat]
def k0_off14 (k0_t1 : Fin k0_t1_loop.trips) : Fin 2 → Nat :=
  let c256_84 : Index := 256#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v181 : Index := Scalar.indexCast v60
  ![256, v181.toNat]
def k0_off15 (k0_t1 : Fin k0_t1_loop.trips) : Fin 2 → Nat :=
  let c4 : Index := 4#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v194 : Index := Scalar.indexCast v60
  ![4, v194.toNat]
def k0_off16 (k0_t1 : Fin k0_t1_loop.trips) : Fin 2 → Nat :=
  let c512_93 : Index := 512#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v207 : Index := Scalar.indexCast v60
  ![512, v207.toNat]
def k0_off17 (k0_t1 : Fin k0_t1_loop.trips) : Fin 2 → Nat :=
  let c320 : Index := 320#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v211 : Index := Scalar.indexCast v60
  ![320, v211.toNat]
def k0_off18 (k0_t1 : Fin k0_t1_loop.trips) : Fin 2 → Nat :=
  let c5 : Index := 5#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v224 : Index := Scalar.indexCast v60
  ![5, v224.toNat]
def k0_off19 (k0_t1 : Fin k0_t1_loop.trips) : Fin 2 → Nat :=
  let c640_102 : Index := 640#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v237 : Index := Scalar.indexCast v60
  ![640, v237.toNat]
def k0_off20 (k0_t1 : Fin k0_t1_loop.trips) : Fin 2 → Nat :=
  let c384_103 : Index := 384#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v241 : Index := Scalar.indexCast v60
  ![384, v241.toNat]
def k0_off21 (k0_t1 : Fin k0_t1_loop.trips) : Fin 2 → Nat :=
  let c6 : Index := 6#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v254 : Index := Scalar.indexCast v60
  ![6, v254.toNat]
def k0_off22 (k0_t1 : Fin k0_t1_loop.trips) : Fin 2 → Nat :=
  let c768_112 : Index := 768#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v267 : Index := Scalar.indexCast v60
  ![768, v267.toNat]
def k0_off23 (k0_t1 : Fin k0_t1_loop.trips) : Fin 2 → Nat :=
  let c448 : Index := 448#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v271 : Index := Scalar.indexCast v60
  ![448, v271.toNat]
def k0_off24 (k0_t1 : Fin k0_t1_loop.trips) : Fin 2 → Nat :=
  let c7 : Index := 7#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v284 : Index := Scalar.indexCast v60
  ![7, v284.toNat]
def k0_off25 (k0_t1 : Fin k0_t1_loop.trips) : Fin 2 → Nat :=
  let c896_121 : Index := 896#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v297 : Index := Scalar.indexCast v60
  ![896, v297.toNat]
def k0_off26 (k0_t1 : Fin k0_t1_loop.trips) : Fin 2 → Nat :=
  let c512_122 : Index := 512#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v301 : Index := Scalar.indexCast v60
  ![512, v301.toNat]
def k0_off27 (k0_t1 : Fin k0_t1_loop.trips) : Fin 2 → Nat :=
  let c8 : Index := 8#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v314 : Index := Scalar.indexCast v60
  ![8, v314.toNat]
def k0_off28 (k0_t1 : Fin k0_t1_loop.trips) : Fin 2 → Nat :=
  let c1024_131 : Index := 1024#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v327 : Index := Scalar.indexCast v60
  ![1024, v327.toNat]
def k0_off29 (k0_t1 : Fin k0_t1_loop.trips) : Fin 2 → Nat :=
  let c576 : Index := 576#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v331 : Index := Scalar.indexCast v60
  ![576, v331.toNat]
def k0_off30 (k0_t1 : Fin k0_t1_loop.trips) : Fin 2 → Nat :=
  let c9 : Index := 9#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v344 : Index := Scalar.indexCast v60
  ![9, v344.toNat]
def k0_off31 (k0_t1 : Fin k0_t1_loop.trips) : Fin 2 → Nat :=
  let c1152_140 : Index := 1152#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v357 : Index := Scalar.indexCast v60
  ![1152, v357.toNat]
def k0_off32 (k0_t1 : Fin k0_t1_loop.trips) : Fin 2 → Nat :=
  let c640_141 : Index := 640#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v361 : Index := Scalar.indexCast v60
  ![640, v361.toNat]
def k0_off33 (k0_t1 : Fin k0_t1_loop.trips) : Fin 2 → Nat :=
  let c10 : Index := 10#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v374 : Index := Scalar.indexCast v60
  ![10, v374.toNat]
def k0_off34 (k0_t1 : Fin k0_t1_loop.trips) : Fin 2 → Nat :=
  let c1280_150 : Index := 1280#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v387 : Index := Scalar.indexCast v60
  ![1280, v387.toNat]
def k0_off35 (k0_t1 : Fin k0_t1_loop.trips) : Fin 2 → Nat :=
  let c704 : Index := 704#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v391 : Index := Scalar.indexCast v60
  ![704, v391.toNat]
def k0_off36 (k0_t1 : Fin k0_t1_loop.trips) : Fin 2 → Nat :=
  let c11 : Index := 11#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v404 : Index := Scalar.indexCast v60
  ![11, v404.toNat]
def k0_off37 (k0_t1 : Fin k0_t1_loop.trips) : Fin 2 → Nat :=
  let c1408_159 : Index := 1408#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v417 : Index := Scalar.indexCast v60
  ![1408, v417.toNat]
def k0_off38 (k0_t1 : Fin k0_t1_loop.trips) : Fin 2 → Nat :=
  let c768_160 : Index := 768#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v421 : Index := Scalar.indexCast v60
  ![768, v421.toNat]
def k0_off39 (k0_t1 : Fin k0_t1_loop.trips) : Fin 2 → Nat :=
  let c12 : Index := 12#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v434 : Index := Scalar.indexCast v60
  ![12, v434.toNat]
def k0_off40 (k0_t1 : Fin k0_t1_loop.trips) : Fin 2 → Nat :=
  let c1536_169 : Index := 1536#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v447 : Index := Scalar.indexCast v60
  ![1536, v447.toNat]
def k0_off41 (k0_t1 : Fin k0_t1_loop.trips) : Fin 2 → Nat :=
  let c832 : Index := 832#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v451 : Index := Scalar.indexCast v60
  ![832, v451.toNat]
def k0_off42 (k0_t1 : Fin k0_t1_loop.trips) : Fin 2 → Nat :=
  let c13 : Index := 13#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v464 : Index := Scalar.indexCast v60
  ![13, v464.toNat]
def k0_off43 (k0_t1 : Fin k0_t1_loop.trips) : Fin 2 → Nat :=
  let c1664_178 : Index := 1664#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v477 : Index := Scalar.indexCast v60
  ![1664, v477.toNat]
def k0_off44 (k0_t1 : Fin k0_t1_loop.trips) : Fin 2 → Nat :=
  let c896_179 : Index := 896#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v481 : Index := Scalar.indexCast v60
  ![896, v481.toNat]
def k0_off45 (k0_t1 : Fin k0_t1_loop.trips) : Fin 2 → Nat :=
  let c14 : Index := 14#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v494 : Index := Scalar.indexCast v60
  ![14, v494.toNat]
def k0_off46 (k0_t1 : Fin k0_t1_loop.trips) : Fin 2 → Nat :=
  let c1792_188 : Index := 1792#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v507 : Index := Scalar.indexCast v60
  ![1792, v507.toNat]
def k0_off47 (k0_t1 : Fin k0_t1_loop.trips) : Fin 2 → Nat :=
  let c960 : Index := 960#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v511 : Index := Scalar.indexCast v60
  ![960, v511.toNat]
def k0_off48 (k0_t1 : Fin k0_t1_loop.trips) : Fin 2 → Nat :=
  let c15 : Index := 15#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v524 : Index := Scalar.indexCast v60
  ![15, v524.toNat]
def k0_off49 (k0_t1 : Fin k0_t1_loop.trips) : Fin 2 → Nat :=
  let c1920_197 : Index := 1920#32
  let c0_i32_43 : BitVec 32 := 0#32
  let c1_i32_45 : BitVec 32 := 1#32
  let arg22 : BitVec 32 := Scf.iv c0_i32_43 c1_i32_45 k0_t1
  let c512_i32 : BitVec 32 := 512#32
  let v59 : BitVec 32 := Scalar.muli arg22 c512_i32
  let v60 : BitVec 32 := v59
  let v537 : Index := Scalar.indexCast v60
  ![1920, v537.toNat]
@[reducible] def k0_t2_loop : Scf.Loop 32 :=
  let c0_i32_13 : BitVec 32 := 0#32
  let c16_i32 : BitVec 32 := 16#32
  let v21 : BitVec 32 := Scalar.addi c0_i32_13 c16_i32
  let c1_i32 : BitVec 32 := 1#32
  ⟨c0_i32_13, v21, c1_i32⟩
def k0_mult2 (k0_t2 : Fin k0_t2_loop.trips) : BitVec 32 :=
  let c0_i32_13 : BitVec 32 := 0#32
  let c1_i32 : BitVec 32 := 1#32
  let arg22 : BitVec 32 := Scf.iv c0_i32_13 c1_i32 k0_t2
  let c512_i32 : BitVec 32 := 512#32
  let v38 : BitVec 32 := Scalar.muli arg22 c512_i32
  v38
def k0_off50 (k0_t2 : Fin k0_t2_loop.trips) : Fin 2 → Nat :=
  let c0_28 : Index := 0#32
  let c0_i32_13 : BitVec 32 := 0#32
  let c1_i32 : BitVec 32 := 1#32
  let arg22 : BitVec 32 := Scf.iv c0_i32_13 c1_i32 k0_t2
  let c512_i32 : BitVec 32 := 512#32
  let v38 : BitVec 32 := Scalar.muli arg22 c512_i32
  let v39 : BitVec 32 := v38
  let v40 : Index := Scalar.indexCast v39
  ![0, v40.toNat]
def k0_off51 (k0_t2 : Fin k0_t2_loop.trips) : Fin 2 → Nat :=
  let c0_29 : Index := 0#32
  let c0_i32_13 : BitVec 32 := 0#32
  let c1_i32 : BitVec 32 := 1#32
  let arg22 : BitVec 32 := Scf.iv c0_i32_13 c1_i32 k0_t2
  let c512_i32 : BitVec 32 := 512#32
  let v38 : BitVec 32 := Scalar.muli arg22 c512_i32
  let v39 : BitVec 32 := v38
  let v44 : Index := Scalar.indexCast v39
  ![0, v44.toNat]
def k0_off52 (k0_t2 : Fin k0_t2_loop.trips) : Fin 2 → Nat :=
  let c0_33 : Index := 0#32
  let c0_i32_13 : BitVec 32 := 0#32
  let c1_i32 : BitVec 32 := 1#32
  let arg22 : BitVec 32 := Scf.iv c0_i32_13 c1_i32 k0_t2
  let c512_i32 : BitVec 32 := 512#32
  let v38 : BitVec 32 := Scalar.muli arg22 c512_i32
  let v39 : BitVec 32 := v38
  let v54 : Index := Scalar.indexCast v39
  ![0, v54.toNat]
def k0_off53 (k0_t2 : Fin k0_t2_loop.trips) : Fin 2 → Nat :=
  let c0_40 : Index := 0#32
  let c0_i32_13 : BitVec 32 := 0#32
  let c1_i32 : BitVec 32 := 1#32
  let arg22 : BitVec 32 := Scf.iv c0_i32_13 c1_i32 k0_t2
  let c512_i32 : BitVec 32 := 512#32
  let v38 : BitVec 32 := Scalar.muli arg22 c512_i32
  let v39 : BitVec 32 := v38
  let v70 : Index := Scalar.indexCast v39
  ![0, v70.toNat]
@[reducible] def k0_t3_loop : Scf.Loop 32 :=
  let c0_i32_24 : BitVec 32 := 0#32
  let c4_i32 : BitVec 32 := 4#32
  let v34 : BitVec 32 := Scalar.addi c0_i32_24 c4_i32
  let c1_i32_25 : BitVec 32 := 1#32
  ⟨c0_i32_24, v34, c1_i32_25⟩
def k0_mult3 (k0_t3 : Fin k0_t3_loop.trips) : BitVec 32 :=
  let c0_i32_24 : BitVec 32 := 0#32
  let c1_i32_25 : BitVec 32 := 1#32
  let arg22 : BitVec 32 := Scf.iv c0_i32_24 c1_i32_25 k0_t3
  let c512_i32 : BitVec 32 := 512#32
  let v38 : BitVec 32 := Scalar.muli arg22 c512_i32
  v38
def k0_off54 (k0_t3 : Fin k0_t3_loop.trips) : Fin 2 → Nat :=
  let c0_i32_24 : BitVec 32 := 0#32
  let c1_i32_25 : BitVec 32 := 1#32
  let arg22 : BitVec 32 := Scf.iv c0_i32_24 c1_i32_25 k0_t3
  let c512_i32 : BitVec 32 := 512#32
  let v38 : BitVec 32 := Scalar.muli arg22 c512_i32
  let v39 : BitVec 32 := v38
  let v41 : Index := Scalar.indexCast v39
  let c0_30 : Index := 0#32
  ![v41.toNat, 0]
def k0_off55 (k0_t3 : Fin k0_t3_loop.trips) : Fin 2 → Nat :=
  let c0_32 : Index := 0#32
  let c0_i32_24 : BitVec 32 := 0#32
  let c1_i32_25 : BitVec 32 := 1#32
  let arg22 : BitVec 32 := Scf.iv c0_i32_24 c1_i32_25 k0_t3
  let c512_i32 : BitVec 32 := 512#32
  let v38 : BitVec 32 := Scalar.muli arg22 c512_i32
  let v39 : BitVec 32 := v38
  let v45 : Index := Scalar.indexCast v39
  ![0, v45.toNat]
def k0_cond2 (i : grid0.Coords) : BitVec 1 :=
  let arg0 : BitVec 32 := BitVec.ofNat 32 (i 0).val
  let c47_i32 : BitVec 32 := 47#32
  let v35 : BitVec 1 := Scalar.cmpi .eq arg0 c47_i32
  let v36 : BitVec 32 := Scalar.extui v35
  let c0_i32_27 : BitVec 32 := 0#32
  let v37 : BitVec 1 := Scalar.cmpi .ne v36 c0_i32_27
  v37

@[reducible] def k0_t4_loop : Scf.Loop 32 :=
  let c0_i32_38 : BitVec 32 := 0#32
  let c16_i32_39 : BitVec 32 := 16#32
  let v51 : BitVec 32 := Scalar.addi c0_i32_38 c16_i32_39
  let c1_i32_40 : BitVec 32 := 1#32
  ⟨c0_i32_38, v51, c1_i32_40⟩
def k0_mult4 (k0_t4 : Fin k0_t4_loop.trips) : BitVec 32 :=
  let c0_i32_38 : BitVec 32 := 0#32
  let c1_i32_40 : BitVec 32 := 1#32
  let arg22 : BitVec 32 := Scf.iv c0_i32_38 c1_i32_40 k0_t4
  let c512_i32 : BitVec 32 := 512#32
  let v57 : BitVec 32 := Scalar.muli arg22 c512_i32
  v57
def k0_off56 (k0_t4 : Fin k0_t4_loop.trips) : Fin 2 → Nat :=
  let c0_47 : Index := 0#32
  let c0_i32_38 : BitVec 32 := 0#32
  let c1_i32_40 : BitVec 32 := 1#32
  let arg22 : BitVec 32 := Scf.iv c0_i32_38 c1_i32_40 k0_t4
  let c512_i32 : BitVec 32 := 512#32
  let v57 : BitVec 32 := Scalar.muli arg22 c512_i32
  let v58 : BitVec 32 := v57
  let v59 : Index := Scalar.indexCast v58
  ![0, v59.toNat]
def k0_off57 (k0_t4 : Fin k0_t4_loop.trips) : Fin 2 → Nat :=
  let c0_48 : Index := 0#32
  let c0_i32_38 : BitVec 32 := 0#32
  let c1_i32_40 : BitVec 32 := 1#32
  let arg22 : BitVec 32 := Scf.iv c0_i32_38 c1_i32_40 k0_t4
  let c512_i32 : BitVec 32 := 512#32
  let v57 : BitVec 32 := Scalar.muli arg22 c512_i32
  let v58 : BitVec 32 := v57
  let v62 : Index := Scalar.indexCast v58
  ![0, v62.toNat]
def k0_off58 (k0_t4 : Fin k0_t4_loop.trips) : Fin 2 → Nat :=
  let c0_52 : Index := 0#32
  let c0_i32_38 : BitVec 32 := 0#32
  let c1_i32_40 : BitVec 32 := 1#32
  let arg22 : BitVec 32 := Scf.iv c0_i32_38 c1_i32_40 k0_t4
  let c512_i32 : BitVec 32 := 512#32
  let v57 : BitVec 32 := Scalar.muli arg22 c512_i32
  let v58 : BitVec 32 := v57
  let v69 : Index := Scalar.indexCast v58
  ![0, v69.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S24x512x8192 : Shape := ⟨3, ![24, 512, 8192]⟩
abbrev S24x512x2048 : Shape := ⟨3, ![24, 512, 2048]⟩
abbrev S24x512 : Shape := ⟨2, ![24, 512]⟩
abbrev S1024x8192 : Shape := ⟨2, ![1024, 8192]⟩
abbrev S16x8192 : Shape := ⟨2, ![16, 8192]⟩
abbrev S2048x8 : Shape := ⟨2, ![2048, 8]⟩
abbrev S8x8192 : Shape := ⟨2, ![8, 8192]⟩
abbrev S8192 : Shape := ⟨1, ![8192]⟩
abbrev S1024x1x8192 : Shape := ⟨3, ![1024, 1, 8192]⟩
abbrev S1024x2x8192 : Shape := ⟨3, ![1024, 2, 8192]⟩
abbrev S2048x8192 : Shape := ⟨2, ![2048, 8192]⟩
abbrev S16x128x8192 : Shape := ⟨3, ![16, 128, 8192]⟩
abbrev S16x1x8192 : Shape := ⟨3, ![16, 1, 8192]⟩
abbrev S1x1x8192 : Shape := ⟨3, ![1, 1, 8192]⟩
abbrev S24x512x1 : Shape := ⟨3, ![24, 512, 1]⟩
abbrev S1x8192 : Shape := ⟨2, ![1, 8192]⟩
abbrev S24x512x8 : Shape := ⟨3, ![24, 512, 8]⟩
abbrev S_ : Shape := ⟨0, ![]⟩

abbrev nBuf : Space → Nat
  | .hbm => 23
  | .vmem => 13
  | .smem => 0
  | _ => 0

abbrev bufTy : (tb : Table) → Fin (tcTables nBuf tb) → BufTy
  | .hbm, ⟨0, _⟩ => ⟨S24x512x8192, .bf16⟩
  | .hbm, ⟨1, _⟩ => ⟨S24x512x2048, .fp8e4m3⟩
  | .hbm, ⟨2, _⟩ => ⟨S24x512, .f32⟩
  | .hbm, ⟨3, _⟩ => ⟨S1024x8192, .i8⟩
  | .hbm, ⟨4, _⟩ => ⟨S16x8192, .bf16⟩
  | .hbm, ⟨5, _⟩ => ⟨S2048x8, .bf16⟩
  | .hbm, ⟨6, _⟩ => ⟨S8x8192, .bf16⟩
  | .hbm, ⟨7, _⟩ => ⟨S8192, .f32⟩
  | .hbm, ⟨8, _⟩ => ⟨S8192, .f32⟩
  | .hbm, ⟨9, _⟩ => ⟨S24x512x2048, .bf16⟩
  | .hbm, ⟨10, _⟩ => ⟨S2048x8, .bf16⟩
  | .hbm, ⟨11, _⟩ => ⟨S8x8192, .bf16⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .i1⟩
  | .hbm, ⟨17, _⟩ => ⟨S_, .i1⟩
  | .hbm, ⟨18, _⟩ => ⟨S_, .i1⟩
  | .hbm, ⟨19, _⟩ => ⟨S2048x8, .i1⟩
  | .hbm, ⟨20, _⟩ => ⟨S_, .bf16⟩
  | .hbm, ⟨21, _⟩ => ⟨S2048x8, .bf16⟩
  | .hbm, ⟨22, _⟩ => ⟨S2048x8, .bf16⟩
  | .local _ .vmem, ⟨0, _⟩ => ⟨S24x512x8192, .bf16⟩
  | .local _ .vmem, ⟨1, _⟩ => ⟨S24x512x2048, .fp8e4m3⟩
  | .local _ .vmem, ⟨2, _⟩ => ⟨S24x512, .f32⟩
  | .local _ .vmem, ⟨3, _⟩ => ⟨S1024x8192, .i8⟩
  | .local _ .vmem, ⟨4, _⟩ => ⟨S16x8192, .bf16⟩
  | .local _ .vmem, ⟨5, _⟩ => ⟨S2048x8, .bf16⟩
  | .local _ .vmem, ⟨6, _⟩ => ⟨S8x8192, .bf16⟩
  | .local _ .vmem, ⟨7, _⟩ => ⟨S8192, .f32⟩
  | .local _ .vmem, ⟨8, _⟩ => ⟨S8192, .f32⟩
  | .local _ .vmem, ⟨9, _⟩ => ⟨S24x512x2048, .bf16⟩
  | .local _ .vmem, ⟨10, _⟩ => ⟨S2048x8, .bf16⟩
  | .local _ .vmem, ⟨11, _⟩ => ⟨S8x8192, .bf16⟩
  | .local _ .vmem, ⟨12, _⟩ => ⟨S8192, .f32⟩
  | _, _ => ⟨S24x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S24x512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x8 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x512x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2048x8 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x8192 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Tiles.lean ====
/-
  Windows of matrices, and what a list of stores of column chunks leaves in a buffer.
  A matrix of many columns is filled chunk after chunk of 512 columns; `asm` is the matrix whose chunks are given,
  `win` reads a window of a matrix. The theorems say what a buffer reads after one more chunk has been stored.
-/
module

public import Idealize.ShloMosaic.Lib.WritesUnit
public import Idealize.ShloMosaic.Lib.Pipeline.FrameBody
public import Idealize.ShloMosaic.Lib.Pointwise.Index

@[expose] public section

set_option maxRecDepth 16384
noncomputable section

namespace Cert.Tiles

open Idealize.ShloMosaic

variable {α : Type}

/-- The `R × C` matrices' indices. -/
abbrev M (R C : ℕ) : Shape := ⟨2, ![R, C]⟩

/-- The `n × m` window at row `r`, column `c`. -/
def win {R C : ℕ} (X : (M R C).Idx → α) (r c n m : ℕ) (hr : r + n ≤ R) (hc : c + m ≤ C) : (M n m).Idx → α :=
  fun x => X (ix2 ⟨r + (x 0).val, by have : (x 0).val < n := (x 0).isLt; omega⟩
    ⟨c + (x 1).val, by have : (x 1).val < m := (x 1).isLt; omega⟩)

/-- The 512 columns from `512 k`. -/
def cols {R C n : ℕ} (hC : C = 512 * n) (X : (M R C).Idx → α) (k : Fin n) : (M R 512).Idx → α :=
  win X 0 (512 * k.val) R 512 (by omega) (by have := k.isLt; omega)

theorem app2 {I J β : Type} (w : I → J → β) {i i' : I} {j j' : J} (hi : i = i') (hj : j = j') : w i j = w i' j' := by
  subst hi; subst hj; rfl

theorem app3 {I J K β : Type} (w : I → J → K → β) {i i' : I} {j j' : J} {k k' : K} (hi : i = i') (hj : j = j') (hk : k = k') :
    w i j k = w i' j' k' := by
  subst hi; subst hj; subst hk; rfl

theorem app4 {I J K L β : Type} (w : I → J → K → L → β) {i i' : I} {j j' : J} {k k' : K} {l l' : L} (hi : i = i') (hj : j = j')
    (hk : k = k') (hl : l = l') : w i j k l = w i' j' k' l' := by
  subst hi; subst hj; subst hk; subst hl; rfl

theorem app5 {I J K L N β : Type} (w : I → J → K → L → N → β) {i i' : I} {j j' : J} {k k' : K} {l l' : L} {n n' : N} (hi : i = i')
    (hj : j = j') (hk : k = k') (hl : l = l') (hn : n = n') : w i j k l n = w i' j' k' l' n' := by
  subst hi; subst hj; subst hk; subst hl; subst hn; rfl

/-- A list of one piece, by its payload. -/
theorem one_piece {Val : EltTy → Type} {e : EltTy} {s : Shape} (r : Rect s) {w w' : r.shape.Idx → Val e} (h : w = w') :
    ([⟨r, w⟩] : List (View.Piece Val s e)) = [⟨r, w'⟩] := by
  subst h; rfl

/-- The matrix whose chunks of 512 columns are `w 0, w 1, …`. -/
def asm {R C n : ℕ} (hC : C = 512 * n) (w : Fin n → (M R 512).Idx → α) : (M R C).Idx → α :=
  fun y => w ⟨(y 1).val / 512, by have : (y 1).val < C := (y 1).isLt; omega⟩
    (ix2 (y 0) ⟨(y 1).val % 512, Nat.mod_lt _ (by omega)⟩)

/-- The matrix whose blocks of 128 rows and 512 columns are given. -/
def asm2 {R C n m : ℕ} (hR : R = 128 * m) (hC : C = 512 * n) (w : Fin n → Fin m → (M 128 512).Idx → α) :
    (M R C).Idx → α :=
  fun y => w ⟨(y 1).val / 512, by have : (y 1).val < C := (y 1).isLt; omega⟩
    ⟨(y 0).val / 128, by have : (y 0).val < R := (y 0).isLt; omega⟩
    (ix2 ⟨(y 0).val % 128, Nat.mod_lt _ (by omega)⟩ ⟨(y 1).val % 512, Nat.mod_lt _ (by omega)⟩)

/-- A load through a rectangle of unit strides reads a window. -/
theorem ld_win {Val : EltTy → Type} {e : EltTy} {R C n m r c : ℕ} (X : (M R C).Idx → Val e) {off : Fin 2 → ℕ}
    (inb : ∀ a : Fin 2, off a + (![n, m] : Fin 2 → ℕ) a ≤ (M R C).size a) (ho : off = ![r, c]) (hr : r + n ≤ R) (hc : c + m ≤ C) :
    View.ld (S := M R C) X (Rect.unit (s := M R C) off ![n, m] inb) = win X r c n m hr hc := by
  subst ho
  funext x
  show X _ = X _
  congr 1
  funext a
  apply Fin.ext
  match a with
  | ⟨0, _⟩ => show r + 1 * (x 0).val = r + (x 0).val; omega
  | ⟨1, _⟩ => show c + 1 * (x 1).val = c + (x 1).val; omega

theorem win_congr {R C r c n m : ℕ} (X Y : (M R C).Idx → α) (hr : r + n ≤ R) (hc : c + m ≤ C)
    (h : ∀ y : (M R C).Idx, c ≤ (y 1).val → (y 1).val < c + m → X y = Y y) : win X r c n m hr hc = win Y r c n m hr hc := by
  funext x
  have : (x 1).val < m := (x 1).isLt
  refine h _ ?_ ?_
  · show c ≤ c + (x 1).val; omega
  · show c + (x 1).val < c + m; omega

theorem cols_asm {R C n : ℕ} (hC : C = 512 * n) (w : Fin n → (M R 512).Idx → α) (k : Fin n) : cols hC (asm hC w) k = w k := by
  funext x
  have hx : (x 1).val < 512 := (x 1).isLt
  show w _ _ = w _ _
  have h1 : (512 * k.val + (x 1).val) / 512 = k.val := by omega
  have h2 : (512 * k.val + (x 1).val) % 512 = (x 1).val := by omega
  refine app2 w (Fin.ext h1) (funext fun a => Fin.ext ?_)
  match a with
  | ⟨0, _⟩ => show 0 + (x 0).val = (x 0).val; omega
  | ⟨1, _⟩ => exact h2

theorem asm_cols {R C n : ℕ} (hC : C = 512 * n) (X : (M R C).Idx → α) : asm hC (fun k => cols hC X k) = X := by
  funext y
  show X _ = X _
  congr 1
  funext a
  apply Fin.ext
  match a with
  | ⟨0, _⟩ => show 0 + (y 0).val = (y 0).val; omega
  | ⟨1, _⟩ => show 512 * ((y 1).val / 512) + (y 1).val % 512 = (y 1).val; omega

section Writes

variable {sig : RefSig} {κ : Kind} {sp : Space} {e : EltTy} {Val : EltTy → Type} {R C n : ℕ}
variable (v : View sig κ sp (M R C) e) (f : v.ty.Contents Val)

/-- One more chunk of columns stored: the buffer reads the assembled matrix on the chunks stored so far. -/
theorem read_chunk (hC : C = 512 * n) (w : Fin n → (M R 512).Idx → Val e) (k : Fin n) (L : List (View.Piece Val (M R C) e))
    {off : Fin 2 → ℕ} (inb : ∀ a : Fin 2, off a + (![R, 512] : Fin 2 → ℕ) a ≤ (M R C).size a) (ho : off = ![0, 512 * k.val])
    (w' : (M R 512).Idx → Val e) (hw : w' = w k) (old : (M R C).Idx → Val e)
    (ih : ∀ y : (M R C).Idx, v.read Val (v.writes Val f L) y = if (y 1).val < 512 * k.val then asm hC w y else old y)
    (y : (M R C).Idx) :
    v.read Val (v.writes Val f ((⟨Rect.unit (s := M R C) off ![R, 512] inb, w'⟩ : View.Piece Val (M R C) e) :: L)) y
      = if (y 1).val < 512 * (k.val + 1) then asm hC w y else old y := by
  subst hw
  have hy0 : (y 0).val < R := (y 0).isLt
  by_cases h : 512 * k.val ≤ (y 1).val ∧ (y 1).val < 512 * k.val + 512
  · rw [if_pos (by omega)]
    refine (View.read_writes_cons_unit_of_mem (s := M R C) v f inb (w k) L y
      (ix2 (y 0) ⟨(y 1).val % 512, Nat.mod_lt _ (by omega)⟩ : (M R 512).Idx) ho fun a => ?_).trans ?_
    · match a with
      | ⟨0, _⟩ => show (y 0).val = 0 + (y 0).val; omega
      | ⟨1, _⟩ => show (y 1).val = 512 * k.val + (y 1).val % 512; omega
    · show w k _ = w _ _
      have : k = ⟨(y 1).val / 512, by have : (y 1).val < C := (y 1).isLt; omega⟩ := Fin.ext (by show k.val = _ / 512; omega)
      rw [← this]
  · refine (View.read_writes_cons_unit_of_not_mem (s := M R C) v f inb (w k) L y ho 1 ?_).trans ((ih y).trans ?_)
    · show (y 1).val < 512 * k.val ∨ 512 * k.val + 512 ≤ (y 1).val
      omega
    · by_cases h' : (y 1).val < 512 * k.val
      · rw [if_pos h', if_pos (by omega)]
      · rw [if_neg h', if_neg (by omega)]

/-- After the last chunk the buffer reads the assembled matrix. -/
theorem read_chunks_all (hC : C = 512 * n) (w : Fin n → (M R 512).Idx → Val e) (L : List (View.Piece Val (M R C) e))
    (old : (M R C).Idx → Val e)
    (ih : ∀ y : (M R C).Idx, v.read Val (v.writes Val f L) y = if (y 1).val < 512 * n then asm hC w y else old y) :
    v.read Val (v.writes Val f L) = asm hC w := by
  funext y
  rw [ih y, if_pos (by have : (y 1).val < C := (y 1).isLt; omega)]

/-- The chunk that is not yet stored reads as before. -/
theorem cols_old (hC : C = 512 * n) (w : Fin n → (M R 512).Idx → Val e) (k : Fin n) (L : List (View.Piece Val (M R C) e))
    (old : (M R C).Idx → Val e)
    (ih : ∀ y : (M R C).Idx, v.read Val (v.writes Val f L) y = if (y 1).val < 512 * k.val then asm hC w y else old y) :
    cols hC (v.read Val (v.writes Val f L)) k = cols hC old k :=
  win_congr _ _ _ _ fun y h _ => by rw [ih y, if_neg (by omega)]

/-- The whole buffer stored at once reads the payload. -/
theorem read_whole (L : List (View.Piece Val (M R C) e)) (inb : ∀ a : Fin 2, (![0, 0] : Fin 2 → ℕ) a + (![R, C] : Fin 2 → ℕ) a ≤ (M R C).size a)
    (w : (M R C).Idx → Val e) :
    v.read Val (v.writes Val f ((⟨Rect.unit (s := M R C) ![0, 0] ![R, C] inb, w⟩ : View.Piece Val (M R C) e) :: L)) = w := by
  funext y
  refine View.read_writes_cons_unit_of_mem (s := M R C) v f inb w L y y rfl fun a => ?_
  match a with
  | ⟨0, _⟩ => exact (Nat.zero_add _).symm
  | ⟨1, _⟩ => exact (Nat.zero_add _).symm

/-- A column chunk stored block by block of 128 rows. -/
theorem read_blocks {m : ℕ} (hR : R = 128 * m) (hC : C = 512 * n) (w : Fin n → Fin m → (M 128 512).Idx → Val e) (k : Fin n)
    (P L : List (View.Piece Val (M R C) e))
    (hP : ∀ p ∈ P, ∃ g : Fin m, ∃ inb, p = ⟨Rect.unit (s := M R C) ![128 * g.val, 512 * k.val] ![128, 512] inb, w k g⟩)
    (hcov : ∀ g : Fin m, ∃ p ∈ P, ∃ inb w', p = ⟨Rect.unit (s := M R C) ![128 * g.val, 512 * k.val] ![128, 512] inb, w'⟩)
    (old : (M R C).Idx → Val e)
    (ih : ∀ y : (M R C).Idx, v.read Val (v.writes Val f L) y = if (y 1).val < 512 * k.val then asm2 hR hC w y else old y)
    (y : (M R C).Idx) :
    v.read Val (v.writes Val f (P ++ L)) y = if (y 1).val < 512 * (k.val + 1) then asm2 hR hC w y else old y := by
  have hy0 : (y 0).val < R := (y 0).isLt
  rw [View.writes_append]
  by_cases h : 512 * k.val ≤ (y 1).val ∧ (y 1).val < 512 * k.val + 512
  · rw [if_pos (by omega)]
    refine View.read_writes_apply_of_pieces (s := M R C) v _ (asm2 hR hC w) P ?_ y ?_
    · intro p hp x
      obtain ⟨g, inb, rfl⟩ := hP p hp
      have h0 : (x 0).val < 128 := (x 0).isLt
      have h1 : (x 1).val < 512 := (x 1).isLt
      show w k g x = w _ _ _
      have e1 : (512 * k.val + 1 * (x 1).val) / 512 = k.val := by omega
      have e2 : (512 * k.val + 1 * (x 1).val) % 512 = (x 1).val := by omega
      have e3 : (128 * g.val + 1 * (x 0).val) / 128 = g.val := by omega
      have e4 : (128 * g.val + 1 * (x 0).val) % 128 = (x 0).val := by omega
      refine app3 w (Fin.ext e1.symm) (Fin.ext e3.symm) (funext fun a => Fin.ext ?_)
      match a with
      | ⟨0, _⟩ => exact e4.symm
      | ⟨1, _⟩ => exact e2.symm
    · obtain ⟨p, hp, inb, w', rfl⟩ := hcov ⟨(y 0).val / 128, by omega⟩
      refine ⟨_, hp, (Rect.mem_set_unit (inb := inb)).mpr fun a => ?_⟩
      match a with
      | ⟨0, _⟩ => show 128 * ((y 0).val / 128) ≤ (y 0).val ∧ (y 0).val < 128 * ((y 0).val / 128) + 128; omega
      | ⟨1, _⟩ => exact h
  · rw [View.read_writes_apply_of_forall_not_mem (s := M R C) v _ y P, ih y]
    · by_cases h' : (y 1).val < 512 * k.val
      · rw [if_pos h', if_pos (by omega)]
      · rw [if_neg h', if_neg (by omega)]
    · intro p hp
      obtain ⟨g, inb, rfl⟩ := hP p hp
      intro hm
      have := ((Rect.mem_set_unit (inb := inb)).mp hm) 1
      exact h this

/-- Two pieces of the same offsets and payloads are one. -/
theorem piece_eq {s : Shape} {off off' size : Fin s.rank → ℕ} (inb : ∀ a, off a + size a ≤ s.size a)
    (inb' : ∀ a, off' a + size a ≤ s.size a) (h : off = off') (w w' : (⟨s.rank, size⟩ : Shape).Idx → Val e) (hw : w = w') :
    (⟨Rect.unit off size inb, w⟩ : View.Piece Val s e) = ⟨Rect.unit off' size inb', w'⟩ := by
  subst h; subst hw; rfl

end Writes

end Cert.Tiles
-- ==== Proof.Spec.lean ====
/-
  What one grid point of the kernel computes, as functions of the matrices it reads: the dequantised weight the first
  point builds chunk by chunk, the scaled cotangent, the accumulators, and the results the last point stores. The
  arithmetic is the program's own, named by the payloads of its stores; only the tiling into chunks is spelt out here.
-/
module

public import proofs.«01_k».proof.Proof.Gen.KernelIdeal.Skeleton
public import proofs.«01_k».proof.Proof.Tiles

@[expose] public section

set_option maxRecDepth 16384
noncomputable section

namespace Cert.KernelIdeal.Gen

open Idealize.ShloMosaic Idealize.ShloMosaic.TcCoe Cert.Tiles

variable {F : FTy → Type} [FloatOps F]

theorem h16 : 8192 = 512 * 16 := rfl
theorem h4 : 2048 = 512 * 4 := rfl
theorem hr16 : 2048 = 128 * 16 := rfl

/-- One block of 128 rows and 512 columns of the adapted weight. -/
def vBlk (wp : Vec F S1024x8192 .i8) (ws : Vec F S16x8192 .bf16) (a : Vec F S2048x8 .bf16) (b : Vec F S8x8192 .bf16)
    (k g : Fin 16) : Vec F S128x512 .bf16 :=
  k0_pay10 (win wp (64 * g.val) (512 * k.val) 64 512 (by omega) (by omega)) (win ws g.val (512 * k.val) 1 512 (by omega) (by omega))
    (win a (128 * g.val) 0 128 8 (by omega) (by omega)) (win b 0 (512 * k.val) 8 512 (by omega) (by omega))

/-- The adapted weight. -/
def vS (wp : Vec F S1024x8192 .i8) (ws : Vec F S16x8192 .bf16) (a : Vec F S2048x8 .bf16) (b : Vec F S8x8192 .bf16) :
    Vec F S2048x8192 .bf16 := asm2 hr16 h16 (vBlk wp ws a b)

/-- The cotangent scaled by the gain. -/
def dypS (dy : Vec F S256x8192 .bf16) (g : Vec F S1x8192 .f32) : Vec F S256x8192 .bf16 :=
  asm h16 fun k => k0_pay38 (cols h16 dy k) (cols h16 g k)

/-- The accumulator of the second adapter matrix after one more point. -/
def xtdS (xs : Vec F S256x1 .f32) (xb : Vec F S256x2048 .bf16) (a : Vec F S2048x8 .bf16) (dy : Vec F S256x8192 .bf16)
    (g : Vec F S1x8192 .f32) (old : Vec F S8x8192 .f32) : Vec F S8x8192 .f32 :=
  asm h16 fun k => k0_pay49 xs xb a (k0_pay37 (cols h16 dy k) (cols h16 g k)) (cols h16 old k)

/-- The accumulator of the magnitudes after one more point. -/
def dmaS (xs : Vec F S256x1 .f32) (xb : Vec F S256x2048 .bf16) (dy : Vec F S256x8192 .bf16) (v : Vec F S2048x8192 .bf16)
    (old : Vec F S1x8192 .f32) : Vec F S1x8192 .f32 :=
  asm h16 fun k => k0_pay39 (k0_pay47 xs) (cols h16 dy k) xb (cols h16 v k) (cols h16 old k)

/-- The product of the scaled cotangent and the second adapter matrix, over the first `k` chunks. -/
def hRec (dy : Vec F S256x8192 .bf16) (g : Vec F S1x8192 .f32) (b : Vec F S8x8192 .bf16) (h0 : Vec F S256x8 .f32) :
    ℕ → Vec F S256x8 .f32
  | 0 => h0
  | k + 1 => if h : k < 16 then
      k0_pay40 (cols h16 dy ⟨k, h⟩) (cols h16 g ⟨k, h⟩) (hRec dy g b h0 k) (cols h16 b ⟨k, h⟩)
    else hRec dy g b h0 k

/-- The input's cotangent. -/
def dxS (dyp : Vec F S256x8192 .bf16) (v : Vec F S2048x8192 .bf16) : Vec F S256x2048 .bf16 :=
  asm h4 fun k => k0_pay2 dyp (win v (512 * k.val) 0 512 8192 (by omega) (by omega))

/-- The second adapter matrix's cotangent. -/
def dbS (v : Vec F S2048x8192 .bf16) (g : Vec F S1x8192 .f32) (a : Vec F S2048x8 .bf16) (xtd : Vec F S8x8192 .f32) :
    Vec F S8x8192 .bf16 :=
  asm h16 fun k => k0_pay7 (cols h16 v k) (cols h16 g k) a (cols h16 xtd k)

/-- The first adapter matrix's accumulator less the correction of the first `k` chunks. -/
def xthRec (v : Vec F S2048x8192 .bf16) (g : Vec F S1x8192 .f32) (b : Vec F S8x8192 .bf16) (x0 : Vec F S2048x8 .f32) :
    ℕ → Vec F S2048x8 .f32
  | 0 => x0
  | k + 1 => if h : k < 16 then
      k0_pay8 (cols h16 v ⟨k, h⟩) (cols h16 g ⟨k, h⟩) (xthRec v g b x0 k) (cols h16 b ⟨k, h⟩)
    else xthRec v g b x0 k

end Cert.KernelIdeal.Gen
-- ==== Proof.Loop.lean ====
/-
  What the kernel's four counted loops leave in the buffers they write, as the functions of Spec.lean.
-/
module

public import proofs.«01_k».proof.Proof.Gen.KernelIdeal.Loops
public import proofs.«01_k».proof.Proof.Spec
public import Idealize.ShloMosaic.Lib.Pipeline.Value

@[expose] public section

set_option maxRecDepth 16384
noncomputable section

namespace Cert.KernelIdeal.Gen

open Idealize.ShloMosaic Idealize.ShloMosaic.TcCoe Cert.Tiles

variable {F : FTy → Type} [FloatOps F]

theorem hz : (![0, 0] : Fin 2 → Nat) = fun _ => 0 := funext fun a => by fin_cases a <;> rfl

variable (𝒱 : Variants) (c : Dev nD) (bd : Option 𝒱.V) (i : grid0.Coords) {arg1 : Memref sig .tc .vmem S256x8192 .bf16} {harg1 : arg1.IsWhole} {arg2 : Memref sig .tc .vmem S256x2048 .fp8e4m3} {harg2 : arg2.IsWhole} {arg3 : Memref sig .tc .vmem S256x1 .f32} {harg3 : arg3.IsWhole} {arg4 : Memref sig .tc .vmem S1024x8192 .i8} {harg4 : arg4.IsWhole} {arg5 : Memref sig .tc .vmem S16x8192 .bf16} {harg5 : arg5.IsWhole} {arg6 : Memref sig .tc .vmem S2048x8 .bf16} {harg6 : arg6.IsWhole} {arg7 : Memref sig .tc .vmem S8x8192 .bf16} {harg7 : arg7.IsWhole} {arg8 : Memref sig .tc .vmem S1x8192 .f32} {harg8 : arg8.IsWhole} {arg9 : Memref sig .tc .vmem S1x8192 .f32} {harg9 : arg9.IsWhole} {arg10 : Memref sig .tc .vmem S256x2048 .bf16} {harg10 : arg10.IsWhole} {arg11 : Memref sig .tc .vmem S2048x8 .bf16} {harg11 : arg11.IsWhole} {arg12 : Memref sig .tc .vmem S8x8192 .bf16} {harg12 : arg12.IsWhole} {arg13 : Memref sig .tc .vmem S1x8192 .f32} {harg13 : arg13.IsWhole} {arg14 : Memref sig .tc .vmem S2048x8192 .bf16} {harg14 : arg14.IsWhole} {arg15 : Memref sig .tc .vmem S256x8192 .bf16} {harg15 : arg15.IsWhole} {arg16 : Memref sig .tc .vmem S256x2048 .bf16} {harg16 : arg16.IsWhole} {arg17 : Memref sig .tc .vmem S256x8 .f32} {harg17 : arg17.IsWhole} {arg18 : Memref sig .tc .vmem S1x8192 .f32} {harg18 : arg18.IsWhole} {arg19 : Memref sig .tc .vmem S2048x8 .f32} {harg19 : arg19.IsWhole} {arg20 : Memref sig .tc .vmem S8x8192 .f32} {harg20 : arg20.IsWhole} {arg21 : Memref sig .tc .vmem S1x8192 .f32} {harg21 : arg21.IsWhole}

theorem trips_t3 : k0_t3_loop.trips = 4 := by decide +kernel
theorem lt_t3 (k : Fin k0_t3_loop.trips) : k.val < 4 := trips_t3 ▸ k.isLt
theorem trips_t1 : k0_t1_loop.trips = 16 := by decide +kernel
theorem lt_t1 (k : Fin k0_t1_loop.trips) : k.val < 16 := trips_t1 ▸ k.isLt
theorem trips_t2 : k0_t2_loop.trips = 16 := by decide +kernel
theorem lt_t2 (k : Fin k0_t2_loop.trips) : k.val < 16 := trips_t2 ▸ k.isLt
theorem trips_t4 : k0_t4_loop.trips = 16 := by decide +kernel
theorem lt_t4 (k : Fin k0_t4_loop.trips) : k.val < 16 := trips_t4 ▸ k.isLt

/-- One trip of the loop over the row chunks of the adapted weight stores one chunk of columns of the input's cotangent. -/
theorem trip3_eq (X_arg14 : BufTy.Contents (Elt F) arg14.view.ty) (X_arg15 : BufTy.Contents (Elt F) arg15.view.ty) (k : Fin k0_t3_loop.trips) :
    ∃ inb w, tripL_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 k = [⟨Rect.unit (s := M 256 2048) (k0_off55 k) ![256, 512] inb, w⟩] ∧
      w = k0_pay2 (arg15.view.read (Elt F) X_arg15) (win (R := 2048) (C := 8192) (arg14.view.read (Elt F) X_arg14) (512 * k.val) 0 512 8192 (by have := lt_t3 k; omega) (by omega)) := by
  unfold tripL_k0_t3 trip_k0_t3
  refine ⟨_, _, rfl, ?_⟩
  exact app2 k0_pay2 (View.ld_unit_zero hz _ _) (ld_win _ _ (k0_off54_eq k) _ _)

/-- After `k` trips. -/
theorem loop3 (X_arg14 : BufTy.Contents (Elt F) arg14.view.ty) (X_arg15 : BufTy.Contents (Elt F) arg15.view.ty) (G_arg10 : BufTy.Contents (Elt F) arg10.view.ty) : ∀ k : ℕ, k ≤ 4 → ∀ y : (M 256 2048).Idx,
    arg10.view.read (Elt F) (arg10.view.writes (Elt F) G_arg10 (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 k)) y
      = if (y 1).val < 512 * k then dxS (arg15.view.read (Elt F) X_arg15) (arg14.view.read (Elt F) X_arg14) y else arg10.view.read (Elt F) G_arg10 y
  | 0, _, y => by rw [if_neg (by omega)]; rfl
  | k + 1, hk, y => by
    have hk' : k < k0_t3_loop.trips := by rw [trips_t3]; omega
    obtain ⟨inb, w, hw, hp⟩ := trip3_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) X_arg14 X_arg15 ⟨k, hk'⟩
    rw [pb_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 ⟨k, hk'⟩, hw]
    exact read_chunk _ _ h4 _ ⟨k, by omega⟩ _ inb (k0_off55_eq ⟨k, hk'⟩) w hp _
      (fun y => loop3 X_arg14 X_arg15 G_arg10 k (by omega) y) y

theorem loop3_all (X_arg14 : BufTy.Contents (Elt F) arg14.view.ty) (X_arg15 : BufTy.Contents (Elt F) arg15.view.ty) (G_arg10 : BufTy.Contents (Elt F) arg10.view.ty) :
    arg10.view.read (Elt F) (arg10.view.writes (Elt F) G_arg10 (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 k0_t3_loop.trips))
      = dxS (arg15.view.read (Elt F) X_arg15) (arg14.view.read (Elt F) X_arg14) :=
  read_chunks_all _ _ h4 _ _ _ (fun y => (loop3 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) X_arg14 X_arg15 G_arg10 k0_t3_loop.trips (le_of_eq trips_t3) y).trans (by rw [trips_t3]; rfl))

/-- One trip of the loop over the column chunks: what it stores, from what the buffers read. -/
theorem trip2_eq (v9 : Vec F S256x1 .f32) (v11 : Vec F S256x2048 .bf16) (v12 : Vec F S2048x8 .bf16) (X_arg1 : BufTy.Contents (Elt F) arg1.view.ty) (X_arg7 : BufTy.Contents (Elt F) arg7.view.ty) (X_arg14 : BufTy.Contents (Elt F) arg14.view.ty) (X_arg16 : BufTy.Contents (Elt F) arg16.view.ty) (X_arg18 : BufTy.Contents (Elt F) arg18.view.ty) (k : Fin k0_t2_loop.trips) (f_arg15 : BufTy.Contents (Elt F) arg15.view.ty) (f_arg17 : BufTy.Contents (Elt F) arg17.view.ty) (f_arg20 : BufTy.Contents (Elt F) arg20.view.ty) (f_arg21 : BufTy.Contents (Elt F) arg21.view.ty) (m : Fin 16) (hm : m.val = k.val) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 k f_arg15 f_arg17 f_arg20 f_arg21 =
      ([⟨Rect.unit (s := M 256 8192) (k0_off50 k) ![256, 512] (k0_off50_inb k),
          k0_pay38 (cols h16 (arg1.view.read (Elt F) X_arg1) m) (cols h16 (arg18.view.read (Elt F) X_arg18) m)⟩],
       [⟨Rect.unit (s := M 256 8) ![0, 0] ![256, 8] inb_S256x8_S256x8_0_0,
          k0_pay40 (cols h16 (arg1.view.read (Elt F) X_arg1) m) (cols h16 (arg18.view.read (Elt F) X_arg18) m) (arg17.view.read (Elt F) f_arg17)
            (cols h16 (arg7.view.read (Elt F) X_arg7) m)⟩],
       [⟨Rect.unit (s := M 8 8192) (k0_off53 k) ![8, 512] (k0_off53_inb k),
          k0_pay49 v9 v11 v12 (k0_pay37 (cols h16 (arg1.view.read (Elt F) X_arg1) m) (cols h16 (arg18.view.read (Elt F) X_arg18) m))
            (cols h16 (arg20.view.read (Elt F) f_arg20) m)⟩],
       [⟨Rect.unit (s := M 1 8192) (k0_off51 k) ![1, 512] (k0_off51_inb k),
          k0_pay39 (k0_pay47 v9) (cols h16 (arg1.view.read (Elt F) X_arg1) m) (arg16.view.read (Elt F) X_arg16) (cols h16 (arg14.view.read (Elt F) X_arg14) m)
            (cols h16 (arg21.view.read (Elt F) f_arg21) m)⟩]) := by
  obtain rfl : m = ⟨k.val, lt_t2 k⟩ := Fin.ext hm
  unfold tripL_k0_t2 trip_k0_t2
  dsimp only
  exact app4 (fun a b c d => (a, b, c, d))
    (one_piece (Val := Elt F) (e := .bf16) (s := M 256 8192) _ (app2 k0_pay38 (ld_win _ _ (k0_off50_eq k) _ _) (ld_win _ _ (k0_off51_eq k) _ _)))
    (one_piece (Val := Elt F) (e := .f32) (s := M 256 8) _ (app4 k0_pay40 (ld_win _ _ (k0_off50_eq k) _ _) (ld_win _ _ (k0_off51_eq k) _ _) (View.ld_unit_zero hz _ _)
      (ld_win _ _ (k0_off53_eq k) _ _)))
    (one_piece (Val := Elt F) (e := .f32) (s := M 8 8192) _ (app5 k0_pay49 rfl rfl rfl (app2 k0_pay37 (ld_win _ _ (k0_off50_eq k) _ _) (ld_win _ _ (k0_off51_eq k) _ _))
      (ld_win _ _ (k0_off53_eq k) _ _)))
    (one_piece (Val := Elt F) (e := .f32) (s := M 1 8192) _ (app5 k0_pay39 rfl (ld_win _ _ (k0_off50_eq k) _ _) (View.ld_unit_zero hz _ _) (ld_win _ _ (k0_off52_eq k) _ _)
      (ld_win _ _ (k0_off51_eq k) _ _)))

/-- After `k` trips. -/
theorem loop2 (v9 : Vec F S256x1 .f32) (v11 : Vec F S256x2048 .bf16) (v12 : Vec F S2048x8 .bf16) (X_arg1 : BufTy.Contents (Elt F) arg1.view.ty) (X_arg7 : BufTy.Contents (Elt F) arg7.view.ty) (X_arg14 : BufTy.Contents (Elt F) arg14.view.ty) (X_arg16 : BufTy.Contents (Elt F) arg16.view.ty) (X_arg18 : BufTy.Contents (Elt F) arg18.view.ty) (G_arg15 : BufTy.Contents (Elt F) arg15.view.ty) (G_arg17 : BufTy.Contents (Elt F) arg17.view.ty) (G_arg20 : BufTy.Contents (Elt F) arg20.view.ty) (G_arg21 : BufTy.Contents (Elt F) arg21.view.ty) : ∀ k : ℕ, k ≤ 16 →
    (∀ y : (M 256 8192).Idx, arg15.view.read (Elt F) (arg15.view.writes (Elt F) G_arg15 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).1) y
      = if (y 1).val < 512 * k then dypS (arg1.view.read (Elt F) X_arg1) (arg18.view.read (Elt F) X_arg18) y else arg15.view.read (Elt F) G_arg15 y)
    ∧ (arg17.view.read (Elt F) (arg17.view.writes (Elt F) G_arg17 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).2.1)
      = hRec (arg1.view.read (Elt F) X_arg1) (arg18.view.read (Elt F) X_arg18) (arg7.view.read (Elt F) X_arg7) (arg17.view.read (Elt F) G_arg17) k)
    ∧ (∀ y : (M 8 8192).Idx, arg20.view.read (Elt F) (arg20.view.writes (Elt F) G_arg20 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).2.2.1) y
      = if (y 1).val < 512 * k then xtdS v9 v11 v12 (arg1.view.read (Elt F) X_arg1) (arg18.view.read (Elt F) X_arg18) (arg20.view.read (Elt F) G_arg20) y else arg20.view.read (Elt F) G_arg20 y)
    ∧ (∀ y : (M 1 8192).Idx, arg21.view.read (Elt F) (arg21.view.writes (Elt F) G_arg21 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).2.2.2) y
      = if (y 1).val < 512 * k then dmaS v9 (arg16.view.read (Elt F) X_arg16) (arg1.view.read (Elt F) X_arg1) (arg14.view.read (Elt F) X_arg14) (arg21.view.read (Elt F) G_arg21) y else arg21.view.read (Elt F) G_arg21 y)
  | 0, _ => ⟨fun y => by rw [if_neg (by omega)]; rfl, rfl, fun y => by rw [if_neg (by omega)]; rfl, fun y => by rw [if_neg (by omega)]; rfl⟩
  | k + 1, hk => by
    have hk' : k < k0_t2_loop.trips := by rw [trips_t2]; omega
    have hk16 : k < 16 := by omega
    obtain ⟨h1, h2, h3, h4⟩ := loop2 v9 v11 v12 X_arg1 X_arg7 X_arg14 X_arg16 X_arg18 G_arg15 G_arg17 G_arg20 G_arg21 k (by omega)
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 ⟨k, hk'⟩,
      trip2_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) v9 v11 v12 X_arg1 X_arg7 X_arg14 X_arg16 X_arg18 ⟨k, hk'⟩ _ _ _ _ ⟨k, hk16⟩ rfl]
    dsimp only
    generalize pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k = p at h1 h2 h3 h4 ⊢
    refine ⟨fun y => ?_, ?_, fun y => ?_, fun y => ?_⟩
    · exact read_chunk _ _ h16 _ ⟨k, hk16⟩ _ (k0_off50_inb ⟨k, hk'⟩) (k0_off50_eq ⟨k, hk'⟩) _ rfl _ h1 y
    · refine (read_whole _ _ _ _ _).trans ?_
      rw [h2]
      rw [hRec.eq_2, dif_pos hk16]
    · exact read_chunk _ _ h16 _ ⟨k, hk16⟩ _ (k0_off53_inb ⟨k, hk'⟩) (k0_off53_eq ⟨k, hk'⟩) _
        (congrArg (k0_pay49 _ _ _ _) (cols_old _ _ h16 _ ⟨k, hk16⟩ _ _ h3)) _ h3 y
    · exact read_chunk _ _ h16 _ ⟨k, hk16⟩ _ (k0_off51_inb ⟨k, hk'⟩) (k0_off51_eq ⟨k, hk'⟩) _
        (congrArg (k0_pay39 _ _ _ _) (cols_old _ _ h16 _ ⟨k, hk16⟩ _ _ h4)) _ h4 y

theorem loop2_all (v9 : Vec F S256x1 .f32) (v11 : Vec F S256x2048 .bf16) (v12 : Vec F S2048x8 .bf16) (X_arg1 : BufTy.Contents (Elt F) arg1.view.ty) (X_arg7 : BufTy.Contents (Elt F) arg7.view.ty) (X_arg14 : BufTy.Contents (Elt F) arg14.view.ty) (X_arg16 : BufTy.Contents (Elt F) arg16.view.ty) (X_arg18 : BufTy.Contents (Elt F) arg18.view.ty) (G_arg15 : BufTy.Contents (Elt F) arg15.view.ty) (G_arg17 : BufTy.Contents (Elt F) arg17.view.ty) (G_arg20 : BufTy.Contents (Elt F) arg20.view.ty) (G_arg21 : BufTy.Contents (Elt F) arg21.view.ty) :
    (arg15.view.read (Elt F) (arg15.view.writes (Elt F) G_arg15 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).1)
      = dypS (arg1.view.read (Elt F) X_arg1) (arg18.view.read (Elt F) X_arg18))
    ∧ (arg17.view.read (Elt F) (arg17.view.writes (Elt F) G_arg17 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).2.1)
      = hRec (arg1.view.read (Elt F) X_arg1) (arg18.view.read (Elt F) X_arg18) (arg7.view.read (Elt F) X_arg7) (arg17.view.read (Elt F) G_arg17) 16)
    ∧ (arg20.view.read (Elt F) (arg20.view.writes (Elt F) G_arg20 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).2.2.1)
      = xtdS v9 v11 v12 (arg1.view.read (Elt F) X_arg1) (arg18.view.read (Elt F) X_arg18) (arg20.view.read (Elt F) G_arg20))
    ∧ (arg21.view.read (Elt F) (arg21.view.writes (Elt F) G_arg21 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).2.2.2)
      = dmaS v9 (arg16.view.read (Elt F) X_arg16) (arg1.view.read (Elt F) X_arg1) (arg14.view.read (Elt F) X_arg14) (arg21.view.read (Elt F) G_arg21)) := by
  rw [trips_t2]
  obtain ⟨h1, h2, h3, h4⟩ := loop2 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) v9 v11 v12 X_arg1 X_arg7 X_arg14 X_arg16 X_arg18 G_arg15 G_arg17 G_arg20 G_arg21 16 le_rfl
  exact ⟨read_chunks_all _ _ h16 _ _ _ h1, h2, read_chunks_all _ _ h16 _ _ _ h3, read_chunks_all _ _ h16 _ _ _ h4⟩

/-- One trip of the loop over the column chunks at the last point. -/
theorem trip4_eq (k0_h2 : k0_cond2 i = 1#1) (X_arg6 : BufTy.Contents (Elt F) arg6.view.ty) (X_arg7 : BufTy.Contents (Elt F) arg7.view.ty) (X_arg14 : BufTy.Contents (Elt F) arg14.view.ty) (X_arg18 : BufTy.Contents (Elt F) arg18.view.ty) (X_arg20 : BufTy.Contents (Elt F) arg20.view.ty) (k : Fin k0_t4_loop.trips) (f_arg12 : BufTy.Contents (Elt F) arg12.view.ty) (f_arg19 : BufTy.Contents (Elt F) arg19.view.ty) (m : Fin 16) (hm : m.val = k.val) :
    tripL_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 k f_arg12 f_arg19 =
      ([⟨Rect.unit (s := M 8 8192) (k0_off58 k) ![8, 512] (k0_off58_inb i k k0_h2),
          k0_pay7 (cols h16 (arg14.view.read (Elt F) X_arg14) m) (cols h16 (arg18.view.read (Elt F) X_arg18) m) (arg6.view.read (Elt F) X_arg6)
            (cols h16 (arg20.view.read (Elt F) X_arg20) m)⟩],
       [⟨Rect.unit (s := M 2048 8) ![0, 0] ![2048, 8] inb_S2048x8_S2048x8_0_0,
          k0_pay8 (cols h16 (arg14.view.read (Elt F) X_arg14) m) (cols h16 (arg18.view.read (Elt F) X_arg18) m) (arg19.view.read (Elt F) f_arg19)
            (cols h16 (arg7.view.read (Elt F) X_arg7) m)⟩]) := by
  obtain rfl : m = ⟨k.val, lt_t4 k⟩ := Fin.ext hm
  unfold tripL_k0_t4 trip_k0_t4
  dsimp only
  exact app2 (fun a b => (a, b))
    (one_piece (Val := Elt F) (e := .bf16) (s := M 8 8192) _ (app4 k0_pay7 (ld_win _ _ (k0_off56_eq k) _ _) (ld_win _ _ (k0_off57_eq k) _ _) (View.ld_unit_zero hz _ _)
      (ld_win _ _ (k0_off58_eq k) _ _)))
    (one_piece (Val := Elt F) (e := .f32) (s := M 2048 8) _ (app4 k0_pay8 (ld_win _ _ (k0_off56_eq k) _ _) (ld_win _ _ (k0_off57_eq k) _ _) (View.ld_unit_zero hz _ _)
      (ld_win _ _ (k0_off58_eq k) _ _)))

/-- After `k` trips. -/
theorem loop4 (k0_h2 : k0_cond2 i = 1#1) (X_arg6 : BufTy.Contents (Elt F) arg6.view.ty) (X_arg7 : BufTy.Contents (Elt F) arg7.view.ty) (X_arg14 : BufTy.Contents (Elt F) arg14.view.ty) (X_arg18 : BufTy.Contents (Elt F) arg18.view.ty) (X_arg20 : BufTy.Contents (Elt F) arg20.view.ty) (G_arg12 : BufTy.Contents (Elt F) arg12.view.ty) (G_arg19 : BufTy.Contents (Elt F) arg19.view.ty) : ∀ k : ℕ, k ≤ 16 →
    (∀ y : (M 8 8192).Idx, arg12.view.read (Elt F) (arg12.view.writes (Elt F) G_arg12 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k).1) y
      = if (y 1).val < 512 * k then dbS (arg14.view.read (Elt F) X_arg14) (arg18.view.read (Elt F) X_arg18) (arg6.view.read (Elt F) X_arg6) (arg20.view.read (Elt F) X_arg20) y else arg12.view.read (Elt F) G_arg12 y)
    ∧ (arg19.view.read (Elt F) (arg19.view.writes (Elt F) G_arg19 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k).2)
      = xthRec (arg14.view.read (Elt F) X_arg14) (arg18.view.read (Elt F) X_arg18) (arg7.view.read (Elt F) X_arg7) (arg19.view.read (Elt F) G_arg19) k)
  | 0, _ => ⟨fun y => by rw [if_neg (by omega)]; rfl, rfl⟩
  | k + 1, hk => by
    have hk' : k < k0_t4_loop.trips := by rw [trips_t4]; omega
    have hk16 : k < 16 := by omega
    obtain ⟨h1, h2⟩ := loop4 k0_h2 X_arg6 X_arg7 X_arg14 X_arg18 X_arg20 G_arg12 G_arg19 k (by omega)
    rw [pb_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 ⟨k, hk'⟩,
      trip4_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h2 X_arg6 X_arg7 X_arg14 X_arg18 X_arg20 ⟨k, hk'⟩ _ _ ⟨k, hk16⟩ rfl]
    dsimp only
    generalize pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k = p at h1 h2 ⊢
    refine ⟨fun y => ?_, ?_⟩
    · exact read_chunk _ _ h16 _ ⟨k, hk16⟩ _ (k0_off58_inb i ⟨k, hk'⟩ k0_h2) (k0_off58_eq ⟨k, hk'⟩) _ rfl _ h1 y
    · refine (read_whole _ _ _ _ _).trans ?_
      rw [h2]
      rw [xthRec.eq_2, dif_pos hk16]

theorem loop4_all (k0_h2 : k0_cond2 i = 1#1) (X_arg6 : BufTy.Contents (Elt F) arg6.view.ty) (X_arg7 : BufTy.Contents (Elt F) arg7.view.ty) (X_arg14 : BufTy.Contents (Elt F) arg14.view.ty) (X_arg18 : BufTy.Contents (Elt F) arg18.view.ty) (X_arg20 : BufTy.Contents (Elt F) arg20.view.ty) (G_arg12 : BufTy.Contents (Elt F) arg12.view.ty) (G_arg19 : BufTy.Contents (Elt F) arg19.view.ty) :
    (arg12.view.read (Elt F) (arg12.view.writes (Elt F) G_arg12 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k0_t4_loop.trips).1)
      = dbS (arg14.view.read (Elt F) X_arg14) (arg18.view.read (Elt F) X_arg18) (arg6.view.read (Elt F) X_arg6) (arg20.view.read (Elt F) X_arg20))
    ∧ (arg19.view.read (Elt F) (arg19.view.writes (Elt F) G_arg19 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k0_t4_loop.trips).2)
      = xthRec (arg14.view.read (Elt F) X_arg14) (arg18.view.read (Elt F) X_arg18) (arg7.view.read (Elt F) X_arg7) (arg19.view.read (Elt F) G_arg19) 16) := by
  rw [trips_t4]
  obtain ⟨h1, h2⟩ := loop4 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h2 X_arg6 X_arg7 X_arg14 X_arg18 X_arg20 G_arg12 G_arg19 16 le_rfl
  exact ⟨read_chunks_all _ _ h16 _ _ _ h1, h2⟩

/-- The block `(k, g)` of the adapted weight, as a store. -/
def vPiece (wp : Vec F S1024x8192 .i8) (ws : Vec F S16x8192 .bf16) (a : Vec F S2048x8 .bf16) (b : Vec F S8x8192 .bf16)
    (k g : Fin 16) : View.Piece (Elt F) (M 2048 8192) .bf16 :=
  ⟨Rect.unit (s := M 2048 8192) ![128 * g.val, 512 * k.val] ![128, 512] (Fin.forall_fin_two.mpr
    ⟨by show 128 * g.val + 128 ≤ 2048; omega, by show 512 * k.val + 512 ≤ 8192; omega⟩), vBlk wp ws a b k g⟩

theorem t1_piece {wp : Vec F S1024x8192 .i8} {ws : Vec F S16x8192 .bf16} {a : Vec F S2048x8 .bf16} {b : Vec F S8x8192 .bf16}
    (k : Fin k0_t1_loop.trips) (g : Fin 16) {oS o4 o5 o6 o7 : Fin 2 → ℕ} (hS : oS = ![128 * g.val, 512 * k.val])
    (h4 : o4 = ![64 * g.val, 512 * k.val]) (h5 : o5 = ![g.val, 512 * k.val]) (h6 : o6 = ![128 * g.val, 0]) (h7 : o7 = ![0, 512 * k.val])
    (iS : ∀ a : Fin 2, oS a + (![128, 512] : Fin 2 → ℕ) a ≤ (M 2048 8192).size a)
    (i4 : ∀ a : Fin 2, o4 a + (![64, 512] : Fin 2 → ℕ) a ≤ (M 1024 8192).size a)
    (i5 : ∀ a : Fin 2, o5 a + (![1, 512] : Fin 2 → ℕ) a ≤ (M 16 8192).size a)
    (i6 : ∀ a : Fin 2, o6 a + (![128, 8] : Fin 2 → ℕ) a ≤ (M 2048 8).size a)
    (i7 : ∀ a : Fin 2, o7 a + (![8, 512] : Fin 2 → ℕ) a ≤ (M 8 8192).size a)
    (w : Vec F S128x512 .bf16)
    (hw : w = k0_pay10 (View.ld (S := M 1024 8192) wp (Rect.unit (s := M 1024 8192) o4 ![64, 512] i4))
      (View.ld (S := M 16 8192) ws (Rect.unit (s := M 16 8192) o5 ![1, 512] i5))
      (View.ld (S := M 2048 8) a (Rect.unit (s := M 2048 8) o6 ![128, 8] i6))
      (View.ld (S := M 8 8192) b (Rect.unit (s := M 8 8192) o7 ![8, 512] i7))) :
    (⟨Rect.unit (s := M 2048 8192) oS ![128, 512] iS, w⟩ : View.Piece (Elt F) (M 2048 8192) .bf16)
      = vPiece wp ws a b ⟨k.val, lt_t1 k⟩ g :=
  piece_eq (s := M 2048 8192) iS _ hS _ _ (hw.trans (app4 k0_pay10 (ld_win _ _ h4 _ _) (ld_win _ _ h5 _ _) (ld_win _ _ h6 _ _)
    (ld_win _ _ h7 _ _)))

theorem cons_eq {β : Type} {p q : β} {L L' : List β} (h : p = q) (h' : L = L') : p :: L = q :: L' := by
  subst h; subst h'; rfl

/-- One trip of the loop that builds the adapted weight stores the sixteen blocks of one chunk of columns. -/
theorem trip1_eq (k0_h1 : k0_cond1 i = 1#1) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (m : Fin 16) (hm : m.val = k.val) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 k = [vPiece (arg4.view.read (Elt F) X_arg4) (arg5.view.read (Elt F) X_arg5) (arg6.view.read (Elt F) X_arg6) (arg7.view.read (Elt F) X_arg7) m 15, vPiece (arg4.view.read (Elt F) X_arg4) (arg5.view.read (Elt F) X_arg5) (arg6.view.read (Elt F) X_arg6) (arg7.view.read (Elt F) X_arg7) m 14, vPiece (arg4.view.read (Elt F) X_arg4) (arg5.view.read (Elt F) X_arg5) (arg6.view.read (Elt F) X_arg6) (arg7.view.read (Elt F) X_arg7) m 13, vPiece (arg4.view.read (Elt F) X_arg4) (arg5.view.read (Elt F) X_arg5) (arg6.view.read (Elt F) X_arg6) (arg7.view.read (Elt F) X_arg7) m 12, vPiece (arg4.view.read (Elt F) X_arg4) (arg5.view.read (Elt F) X_arg5) (arg6.view.read (Elt F) X_arg6) (arg7.view.read (Elt F) X_arg7) m 11, vPiece (arg4.view.read (Elt F) X_arg4) (arg5.view.read (Elt F) X_arg5) (arg6.view.read (Elt F) X_arg6) (arg7.view.read (Elt F) X_arg7) m 10, vPiece (arg4.view.read (Elt F) X_arg4) (arg5.view.read (Elt F) X_arg5) (arg6.view.read (Elt F) X_arg6) (arg7.view.read (Elt F) X_arg7) m 9, vPiece (arg4.view.read (Elt F) X_arg4) (arg5.view.read (Elt F) X_arg5) (arg6.view.read (Elt F) X_arg6) (arg7.view.read (Elt F) X_arg7) m 8, vPiece (arg4.view.read (Elt F) X_arg4) (arg5.view.read (Elt F) X_arg5) (arg6.view.read (Elt F) X_arg6) (arg7.view.read (Elt F) X_arg7) m 7, vPiece (arg4.view.read (Elt F) X_arg4) (arg5.view.read (Elt F) X_arg5) (arg6.view.read (Elt F) X_arg6) (arg7.view.read (Elt F) X_arg7) m 6, vPiece (arg4.view.read (Elt F) X_arg4) (arg5.view.read (Elt F) X_arg5) (arg6.view.read (Elt F) X_arg6) (arg7.view.read (Elt F) X_arg7) m 5, vPiece (arg4.view.read (Elt F) X_arg4) (arg5.view.read (Elt F) X_arg5) (arg6.view.read (Elt F) X_arg6) (arg7.view.read (Elt F) X_arg7) m 4, vPiece (arg4.view.read (Elt F) X_arg4) (arg5.view.read (Elt F) X_arg5) (arg6.view.read (Elt F) X_arg6) (arg7.view.read (Elt F) X_arg7) m 3, vPiece (arg4.view.read (Elt F) X_arg4) (arg5.view.read (Elt F) X_arg5) (arg6.view.read (Elt F) X_arg6) (arg7.view.read (Elt F) X_arg7) m 2, vPiece (arg4.view.read (Elt F) X_arg4) (arg5.view.read (Elt F) X_arg5) (arg6.view.read (Elt F) X_arg6) (arg7.view.read (Elt F) X_arg7) m 1, vPiece (arg4.view.read (Elt F) X_arg4) (arg5.view.read (Elt F) X_arg5) (arg6.view.read (Elt F) X_arg6) (arg7.view.read (Elt F) X_arg7) m 0] := by
  obtain rfl : m = ⟨k.val, lt_t1 k⟩ := Fin.ext hm
  unfold tripL_k0_t1 trip_k0_t1
  refine cons_eq (t1_piece k 15 (k0_off49_eq k) (k0_off47_eq k) (k0_off48_eq k) rfl (k0_off3_eq k) _ (k0_off47_inb i k k0_h1) (k0_off48_inb i k k0_h1) inb_S2048x8_S128x8_1920_0 (k0_off3_inb i k k0_h1) _ rfl) ?_
  refine cons_eq (t1_piece k 14 (k0_off46_eq k) (k0_off44_eq k) (k0_off45_eq k) rfl (k0_off3_eq k) _ (k0_off44_inb i k k0_h1) (k0_off45_inb i k k0_h1) inb_S2048x8_S128x8_1792_0 (k0_off3_inb i k k0_h1) _ rfl) ?_
  refine cons_eq (t1_piece k 13 (k0_off43_eq k) (k0_off41_eq k) (k0_off42_eq k) rfl (k0_off3_eq k) _ (k0_off41_inb i k k0_h1) (k0_off42_inb i k k0_h1) inb_S2048x8_S128x8_1664_0 (k0_off3_inb i k k0_h1) _ rfl) ?_
  refine cons_eq (t1_piece k 12 (k0_off40_eq k) (k0_off38_eq k) (k0_off39_eq k) rfl (k0_off3_eq k) _ (k0_off38_inb i k k0_h1) (k0_off39_inb i k k0_h1) inb_S2048x8_S128x8_1536_0 (k0_off3_inb i k k0_h1) _ rfl) ?_
  refine cons_eq (t1_piece k 11 (k0_off37_eq k) (k0_off35_eq k) (k0_off36_eq k) rfl (k0_off3_eq k) _ (k0_off35_inb i k k0_h1) (k0_off36_inb i k k0_h1) inb_S2048x8_S128x8_1408_0 (k0_off3_inb i k k0_h1) _ rfl) ?_
  refine cons_eq (t1_piece k 10 (k0_off34_eq k) (k0_off32_eq k) (k0_off33_eq k) rfl (k0_off3_eq k) _ (k0_off32_inb i k k0_h1) (k0_off33_inb i k k0_h1) inb_S2048x8_S128x8_1280_0 (k0_off3_inb i k k0_h1) _ rfl) ?_
  refine cons_eq (t1_piece k 9 (k0_off31_eq k) (k0_off29_eq k) (k0_off30_eq k) rfl (k0_off3_eq k) _ (k0_off29_inb i k k0_h1) (k0_off30_inb i k k0_h1) inb_S2048x8_S128x8_1152_0 (k0_off3_inb i k k0_h1) _ rfl) ?_
  refine cons_eq (t1_piece k 8 (k0_off28_eq k) (k0_off26_eq k) (k0_off27_eq k) rfl (k0_off3_eq k) _ (k0_off26_inb i k k0_h1) (k0_off27_inb i k k0_h1) inb_S2048x8_S128x8_1024_0 (k0_off3_inb i k k0_h1) _ rfl) ?_
  refine cons_eq (t1_piece k 7 (k0_off25_eq k) (k0_off23_eq k) (k0_off24_eq k) rfl (k0_off3_eq k) _ (k0_off23_inb i k k0_h1) (k0_off24_inb i k k0_h1) inb_S2048x8_S128x8_896_0 (k0_off3_inb i k k0_h1) _ rfl) ?_
  refine cons_eq (t1_piece k 6 (k0_off22_eq k) (k0_off20_eq k) (k0_off21_eq k) rfl (k0_off3_eq k) _ (k0_off20_inb i k k0_h1) (k0_off21_inb i k k0_h1) inb_S2048x8_S128x8_768_0 (k0_off3_inb i k k0_h1) _ rfl) ?_
  refine cons_eq (t1_piece k 5 (k0_off19_eq k) (k0_off17_eq k) (k0_off18_eq k) rfl (k0_off3_eq k) _ (k0_off17_inb i k k0_h1) (k0_off18_inb i k k0_h1) inb_S2048x8_S128x8_640_0 (k0_off3_inb i k k0_h1) _ rfl) ?_
  refine cons_eq (t1_piece k 4 (k0_off16_eq k) (k0_off14_eq k) (k0_off15_eq k) rfl (k0_off3_eq k) _ (k0_off14_inb i k k0_h1) (k0_off15_inb i k k0_h1) inb_S2048x8_S128x8_512_0 (k0_off3_inb i k k0_h1) _ rfl) ?_
  refine cons_eq (t1_piece k 3 (k0_off13_eq k) (k0_off11_eq k) (k0_off12_eq k) rfl (k0_off3_eq k) _ (k0_off11_inb i k k0_h1) (k0_off12_inb i k k0_h1) inb_S2048x8_S128x8_384_0 (k0_off3_inb i k k0_h1) _ rfl) ?_
  refine cons_eq (t1_piece k 2 (k0_off10_eq k) (k0_off8_eq k) (k0_off9_eq k) rfl (k0_off3_eq k) _ (k0_off8_inb i k k0_h1) (k0_off9_inb i k k0_h1) inb_S2048x8_S128x8_256_0 (k0_off3_inb i k k0_h1) _ rfl) ?_
  refine cons_eq (t1_piece k 1 (k0_off7_eq k) (k0_off5_eq k) (k0_off6_eq k) rfl (k0_off3_eq k) _ (k0_off5_inb i k k0_h1) (k0_off6_inb i k k0_h1) inb_S2048x8_S128x8_128_0 (k0_off3_inb i k k0_h1) _ rfl) ?_
  refine cons_eq (t1_piece k 0 (k0_off4_eq k) (k0_off1_eq k) (k0_off2_eq k) rfl (k0_off3_eq k) _ (k0_off1_inb i k k0_h1) (k0_off2_inb i k k0_h1) inb_S2048x8_S128x8_0_0 (k0_off3_inb i k k0_h1) _ rfl) ?_
  rfl

/-- After `k` trips. -/
theorem loop1 (k0_h1 : k0_cond1 i = 1#1) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg14 : BufTy.Contents (Elt F) arg14.view.ty) : ∀ k : ℕ, k ≤ 16 → ∀ y : (M 2048 8192).Idx,
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 k)) y
      = if (y 1).val < 512 * k then vS (arg4.view.read (Elt F) X_arg4) (arg5.view.read (Elt F) X_arg5) (arg6.view.read (Elt F) X_arg6) (arg7.view.read (Elt F) X_arg7) y else arg14.view.read (Elt F) G_arg14 y
  | 0, _, y => by rw [if_neg (by omega)]; rfl
  | k + 1, hk, y => by
    have hk' : k < k0_t1_loop.trips := by rw [trips_t1]; omega
    have hk16 : k < 16 := by omega
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 ⟨k, hk'⟩, trip1_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h1 X_arg4 X_arg5 X_arg6 X_arg7 ⟨k, hk'⟩ ⟨k, hk16⟩ rfl]
    refine read_blocks _ _ hr16 h16 _ ⟨k, hk16⟩ _ _ ?_ ?_ _ (fun y => loop1 k0_h1 X_arg4 X_arg5 X_arg6 X_arg7 G_arg14 k (by omega) y) y
    · intro p hp
      simp only [List.mem_cons, List.not_mem_nil, or_false] at hp
      rcases hp with rfl | rfl | rfl | rfl | rfl | rfl | rfl | rfl | rfl | rfl | rfl | rfl | rfl | rfl | rfl | rfl
      all_goals exact ⟨_, _, rfl⟩
    · intro g
      refine ⟨vPiece (arg4.view.read (Elt F) X_arg4) (arg5.view.read (Elt F) X_arg5) (arg6.view.read (Elt F) X_arg6) (arg7.view.read (Elt F) X_arg7) ⟨k, hk16⟩ g, ?_, _, _, rfl⟩
      have : ∀ g : Fin 16, g = 15 ∨ g = 14 ∨ g = 13 ∨ g = 12 ∨ g = 11 ∨ g = 10 ∨ g = 9 ∨ g = 8 ∨ g = 7 ∨ g = 6 ∨ g = 5 ∨ g = 4 ∨ g = 3 ∨ g = 2 ∨ g = 1 ∨ g = 0 := by decide
      rcases this g with rfl | rfl | rfl | rfl | rfl | rfl | rfl | rfl | rfl | rfl | rfl | rfl | rfl | rfl | rfl | rfl <;> simp only [List.mem_cons, true_or, or_true]

theorem loop1_all (k0_h1 : k0_cond1 i = 1#1) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg14 : BufTy.Contents (Elt F) arg14.view.ty) :
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 k0_t1_loop.trips))
      = vS (arg4.view.read (Elt F) X_arg4) (arg5.view.read (Elt F) X_arg5) (arg6.view.read (Elt F) X_arg6) (arg7.view.read (Elt F) X_arg7) := by
  funext y
  rw [trips_t1, loop1 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h1 X_arg4 X_arg5 X_arg6 X_arg7 G_arg14 16 le_rfl y, if_pos (by have : (y 1).val < 8192 := (y 1).isLt; omega)]

end Cert.KernelIdeal.Gen
-- ==== Proof.Body.lean ====
/-
  The kernel's body at one grid point, run once per kind of point: the first point builds the adapted weight and clears the
  accumulators, every point adds its rows to them and stores its block of the input's cotangent, and the last point stores the
  remaining results. The contents are the functions of Spec.lean.
-/
module

public import proofs.«01_k».proof.Proof.Gen.KernelIdeal.Frame
public import proofs.«01_k».proof.Proof.Loop

@[expose] public section

set_option maxRecDepth 16384
noncomputable section

namespace Cert.KernelIdeal.Gen

open Idealize.ShloMosaic Idealize.ShloMosaic.TcCoe Idealize.ShloMosaic.Tactic Cert.Tiles
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first adapter matrix's accumulator after one more point. -/
def s19S (x1 : Vec F S256x8192 .bf16) (x2 : Vec F S256x2048 .fp8e4m3) (x3 : Vec F S256x1 .f32) (x7 : Vec F S8x8192 .bf16)
    (g : Vec F S1x8192 .f32) (s : Vec F S2048x8 .f32) : Vec F S2048x8 .f32 :=
  k0_pay1 (k0_pay50 x3 (k0_pay46 x2)) s (k0_pay51 (hRec x1 g x7 k0_pay48 16))

/-- The second adapter matrix's accumulator after one more point. -/
def s20S (x1 : Vec F S256x8192 .bf16) (x2 : Vec F S256x2048 .fp8e4m3) (x3 : Vec F S256x1 .f32) (x6 : Vec F S2048x8 .bf16)
    (g : Vec F S1x8192 .f32) (s : Vec F S8x8192 .f32) : Vec F S8x8192 .f32 :=
  xtdS x3 (k0_pay46 x2) x6 x1 g s

/-- The magnitudes' accumulator after one more point. -/
def s21S (x1 : Vec F S256x8192 .bf16) (x2 : Vec F S256x2048 .fp8e4m3) (x3 : Vec F S256x1 .f32) (v : Vec F S2048x8192 .bf16)
    (s : Vec F S1x8192 .f32) : Vec F S1x8192 .f32 :=
  dmaS x3 (k0_pay46 x2) x1 v s

set_option maxHeartbeats 4000000 in
/-- A point that is neither the first nor the last. -/
theorem sound_mid (c : Dev nD) (E : Set ℕ) (i : grid0.Coords) (h1 : ¬ k0_cond1 i = 1#1) (h2 : ¬ k0_cond2 i = 1#1) (arg1 : Memref sig .tc .vmem S256x8192 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S1024x8192 .i8) (harg4 : arg4.IsWhole) (arg5 : Memref sig .tc .vmem S16x8192 .bf16) (harg5 : arg5.IsWhole) (arg6 : Memref sig .tc .vmem S2048x8 .bf16) (harg6 : arg6.IsWhole) (arg7 : Memref sig .tc .vmem S8x8192 .bf16) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x2048 .bf16) (harg10 : arg10.IsWhole) (arg11 : Memref sig .tc .vmem S2048x8 .bf16) (harg11 : arg11.IsWhole) (arg12 : Memref sig .tc .vmem S8x8192 .bf16) (harg12 : arg12.IsWhole) (arg13 : Memref sig .tc .vmem S1x8192 .f32) (harg13 : arg13.IsWhole) (arg14 : Memref sig .tc .vmem S2048x8192 .bf16) (harg14 : arg14.IsWhole) (arg15 : Memref sig .tc .vmem S256x8192 .bf16) (harg15 : arg15.IsWhole) (arg16 : Memref sig .tc .vmem S256x2048 .bf16) (harg16 : arg16.IsWhole) (arg17 : Memref sig .tc .vmem S256x8 .f32) (harg17 : arg17.IsWhole) (arg18 : Memref sig .tc .vmem S1x8192 .f32) (harg18 : arg18.IsWhole) (arg19 : Memref sig .tc .vmem S2048x8 .f32) (harg19 : arg19.IsWhole) (arg20 : Memref sig .tc .vmem S8x8192 .f32) (harg20 : arg20.IsWhole) (arg21 : Memref sig .tc .vmem S1x8192 .f32) (harg21 : arg21.IsWhole)
    (x1 : Vec F S256x8192 .bf16) (x2 : Vec F S256x2048 .fp8e4m3) (x3 : Vec F S256x1 .f32) (x4 : Vec F S1024x8192 .i8) (x5 : Vec F S16x8192 .bf16) (x6 : Vec F S2048x8 .bf16) (x7 : Vec F S8x8192 .bf16) (x8 : Vec F S1x8192 .f32) (x9 : Vec F S1x8192 .f32)
    (y11 : Vec F S2048x8 .bf16) (y12 : Vec F S8x8192 .bf16) (y13 : Vec F S1x8192 .f32) (v : Vec F S2048x8192 .bf16) (g : Vec F S1x8192 .f32) (s19 : Vec F S2048x8 .f32) (s20 : Vec F S8x8192 .f32) (s21 : Vec F S1x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare y11 ∗ owns (c : Thread nD τ) arg12 fullShare y12 ∗ owns (c : Thread nD τ) arg13 fullShare y13 ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ owns (c : Thread nD τ) arg19 fullShare s19 ∗ owns (c : Thread nD τ) arg20 fullShare s20 ∗ owns (c : Thread nD τ) arg21 fullShare s21
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dxS (dypS x1 g) v) ∗ owns (c : Thread nD τ) arg11 fullShare y11 ∗ owns (c : Thread nD τ) arg12 fullShare y12 ∗ owns (c : Thread nD τ) arg13 fullShare y13 ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ owns (c : Thread nD τ) arg19 fullShare (s19S x1 x2 x3 x7 g s19) ∗ owns (c : Thread nD τ) arg20 fullShare (s20S x1 x2 x3 x6 g s20) ∗ owns (c : Thread nD τ) arg21 fullShare (s21S x1 x2 x3 v s21)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_dora_bwd_eq_skeleton]; unfold cc0_dora_bwd_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf11 hf12 hf13 hf14 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (loop3_all _ _ _ _ _ _ _ ).trans (congrArg (fun z => dxS z _) (loop2_all _ _ _ _ _ _ _ _ _ _ _ _ _ _ _ _ ).1)
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists f18; isplitr; · ipureintro; rfl
    iexact H18
  isplitl [H19]
  · iexists _; isplitr
    swap; · iexact H19
    ipureintro
    exact (read_whole _ _ _ _ _).trans (app3 k0_pay1 (app2 k0_pay50 (View.ld_unit_zero hz _ _) ((View.ld_unit_zero hz _ _).trans ((read_whole _ _ _ _ _).trans (congrArg k0_pay46 (View.ld_unit_zero hz _ _))))) (View.ld_unit_zero hz _ _) (congrArg k0_pay51 ((View.ld_unit_zero hz _ _).trans ((congrArg (View.read _ _) (View.writes_append _ _ _ _)).trans ((loop2_all _ _ _ _ _ _ _ _ _ _ _ _ _ _ _ _ ).2.1.trans ((congrArg (fun z => hRec _ _ _ z 16) (read_whole _ _ _ _ _))))))))
  isplitl [H20]
  · iexists _; isplitr
    swap; · iexact H20
    ipureintro
    exact (loop2_all _ _ _ _ _ _ _ _ _ _ _ _ _ _ _ _ ).2.2.1.trans (app3 (fun a b c => xtdS a b c _ _ _) (View.ld_unit_zero hz _ _) ((View.ld_unit_zero hz _ _).trans ((read_whole _ _ _ _ _).trans (congrArg k0_pay46 (View.ld_unit_zero hz _ _)))) (View.ld_unit_zero hz _ _))
  iexists _; isplitr
  swap; · iexact H21
  ipureintro
  exact (loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _))))

set_option maxHeartbeats 4000000 in
/-- The first point: whatever the scratch held, it leaves the adapted weight, the column factor and the first sums. -/
theorem sound_first (c : Dev nD) (E : Set ℕ) (i : grid0.Coords) (h1 : k0_cond1 i = 1#1) (h2 : ¬ k0_cond2 i = 1#1) (arg1 : Memref sig .tc .vmem S256x8192 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S1024x8192 .i8) (harg4 : arg4.IsWhole) (arg5 : Memref sig .tc .vmem S16x8192 .bf16) (harg5 : arg5.IsWhole) (arg6 : Memref sig .tc .vmem S2048x8 .bf16) (harg6 : arg6.IsWhole) (arg7 : Memref sig .tc .vmem S8x8192 .bf16) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x2048 .bf16) (harg10 : arg10.IsWhole) (arg11 : Memref sig .tc .vmem S2048x8 .bf16) (harg11 : arg11.IsWhole) (arg12 : Memref sig .tc .vmem S8x8192 .bf16) (harg12 : arg12.IsWhole) (arg13 : Memref sig .tc .vmem S1x8192 .f32) (harg13 : arg13.IsWhole) (arg14 : Memref sig .tc .vmem S2048x8192 .bf16) (harg14 : arg14.IsWhole) (arg15 : Memref sig .tc .vmem S256x8192 .bf16) (harg15 : arg15.IsWhole) (arg16 : Memref sig .tc .vmem S256x2048 .bf16) (harg16 : arg16.IsWhole) (arg17 : Memref sig .tc .vmem S256x8 .f32) (harg17 : arg17.IsWhole) (arg18 : Memref sig .tc .vmem S1x8192 .f32) (harg18 : arg18.IsWhole) (arg19 : Memref sig .tc .vmem S2048x8 .f32) (harg19 : arg19.IsWhole) (arg20 : Memref sig .tc .vmem S8x8192 .f32) (harg20 : arg20.IsWhole) (arg21 : Memref sig .tc .vmem S1x8192 .f32) (harg21 : arg21.IsWhole)
    (x1 : Vec F S256x8192 .bf16) (x2 : Vec F S256x2048 .fp8e4m3) (x3 : Vec F S256x1 .f32) (x4 : Vec F S1024x8192 .i8) (x5 : Vec F S16x8192 .bf16) (x6 : Vec F S2048x8 .bf16) (x7 : Vec F S8x8192 .bf16) (x8 : Vec F S1x8192 .f32) (x9 : Vec F S1x8192 .f32)
    (y11 : Vec F S2048x8 .bf16) (y12 : Vec F S8x8192 .bf16) (y13 : Vec F S1x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare y11 ∗ owns (c : Thread nD τ) arg12 fullShare y12 ∗ owns (c : Thread nD τ) arg13 fullShare y13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dxS (dypS x1 (k0_pay41 x8 x9)) (vS x4 x5 x6 x7)) ∗ owns (c : Thread nD τ) arg11 fullShare y11 ∗ owns (c : Thread nD τ) arg12 fullShare y12 ∗ owns (c : Thread nD τ) arg13 fullShare y13 ∗ owns (c : Thread nD τ) arg14 fullShare (vS x4 x5 x6 x7) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (k0_pay41 x8 x9) ∗ owns (c : Thread nD τ) arg19 fullShare (s19S x1 x2 x3 x7 (k0_pay41 x8 x9) k0_pay43) ∗ owns (c : Thread nD τ) arg20 fullShare (s20S x1 x2 x3 x6 (k0_pay41 x8 x9) k0_pay44) ∗ owns (c : Thread nD τ) arg21 fullShare (s21S x1 x2 x3 (vS x4 x5 x6 x7) k0_pay42)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_dora_bwd_eq_skeleton]; unfold cc0_dora_bwd_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf1 hf2 hf3 hf4 hf5 hf6 hf7 hf8 hf9 hf11 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (loop3_all _ _ _ _ _ _ _ ).trans (app2 dxS ((loop2_all _ _ _ _ _ _ _ _ _ _ _ _ _ _ _ _ ).1.trans (congrArg (dypS _) ((read_whole _ _ _ _ _).trans (app2 k0_pay41 (View.ld_unit_zero hz _ _) (View.ld_unit_zero hz _ _))))) (loop1_all _ _ _ _ _ _ _ _ _ _ ))
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact (loop1_all _ _ _ _ _ _ _ _ _ _ )
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; isplitr
    swap; · iexact H18
    ipureintro
    exact ((read_whole _ _ _ _ _).trans (app2 k0_pay41 (View.ld_unit_zero hz _ _) (View.ld_unit_zero hz _ _)))
  isplitl [H19]
  · iexists _; isplitr
    swap; · iexact H19
    ipureintro
    exact (read_whole _ _ _ _ _).trans (app3 k0_pay1 (app2 k0_pay50 (View.ld_unit_zero hz _ _) ((View.ld_unit_zero hz _ _).trans ((read_whole _ _ _ _ _).trans (congrArg k0_pay46 (View.ld_unit_zero hz _ _))))) ((View.ld_unit_zero hz _ _).trans (read_whole _ _ _ _ _))
      (congrArg k0_pay51 ((View.ld_unit_zero hz _ _).trans ((congrArg (View.read _ _) (View.writes_append _ _ _ _)).trans ((loop2_all _ _ _ _ _ _ _ _ _ _ _ _ _ _ _ _ ).2.1.trans (app2 (fun g h => hRec _ g _ h 16) ((read_whole _ _ _ _ _).trans (app2 k0_pay41 (View.ld_unit_zero hz _ _) (View.ld_unit_zero hz _ _))) (read_whole _ _ _ _ _)))))))
  isplitl [H20]
  · iexists _; isplitr
    swap; · iexact H20
    ipureintro
    exact (congrArg (View.read _ _) (View.writes_append _ _ _ _)).trans ((loop2_all _ _ _ _ _ _ _ _ _ _ _ _ _ _ _ _ ).2.2.1.trans
      (app5 (fun a b c g o => xtdS a b c _ g o) (View.ld_unit_zero hz _ _) ((View.ld_unit_zero hz _ _).trans ((read_whole _ _ _ _ _).trans (congrArg k0_pay46 (View.ld_unit_zero hz _ _)))) (View.ld_unit_zero hz _ _) ((read_whole _ _ _ _ _).trans (app2 k0_pay41 (View.ld_unit_zero hz _ _) (View.ld_unit_zero hz _ _))) (read_whole _ _ _ _ _)))
  iexists _; isplitr
  swap; · iexact H21
  ipureintro
  exact (congrArg (View.read _ _) (View.writes_append _ _ _ _)).trans ((loop2_all _ _ _ _ _ _ _ _ _ _ _ _ _ _ _ _ ).2.2.2.trans
    (app4 (fun a b v o => dmaS a b _ v o) (View.ld_unit_zero hz _ _) ((read_whole _ _ _ _ _).trans (congrArg k0_pay46 (View.ld_unit_zero hz _ _))) (loop1_all _ _ _ _ _ _ _ _ _ _ ) (read_whole _ _ _ _ _)))

set_option maxHeartbeats 4000000 in
/-- The last point: it also stores the cotangents of the adapter matrices and of the magnitudes. -/
theorem sound_last (c : Dev nD) (E : Set ℕ) (i : grid0.Coords) (h1 : ¬ k0_cond1 i = 1#1) (h2 : k0_cond2 i = 1#1) (arg1 : Memref sig .tc .vmem S256x8192 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S1024x8192 .i8) (harg4 : arg4.IsWhole) (arg5 : Memref sig .tc .vmem S16x8192 .bf16) (harg5 : arg5.IsWhole) (arg6 : Memref sig .tc .vmem S2048x8 .bf16) (harg6 : arg6.IsWhole) (arg7 : Memref sig .tc .vmem S8x8192 .bf16) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x2048 .bf16) (harg10 : arg10.IsWhole) (arg11 : Memref sig .tc .vmem S2048x8 .bf16) (harg11 : arg11.IsWhole) (arg12 : Memref sig .tc .vmem S8x8192 .bf16) (harg12 : arg12.IsWhole) (arg13 : Memref sig .tc .vmem S1x8192 .f32) (harg13 : arg13.IsWhole) (arg14 : Memref sig .tc .vmem S2048x8192 .bf16) (harg14 : arg14.IsWhole) (arg15 : Memref sig .tc .vmem S256x8192 .bf16) (harg15 : arg15.IsWhole) (arg16 : Memref sig .tc .vmem S256x2048 .bf16) (harg16 : arg16.IsWhole) (arg17 : Memref sig .tc .vmem S256x8 .f32) (harg17 : arg17.IsWhole) (arg18 : Memref sig .tc .vmem S1x8192 .f32) (harg18 : arg18.IsWhole) (arg19 : Memref sig .tc .vmem S2048x8 .f32) (harg19 : arg19.IsWhole) (arg20 : Memref sig .tc .vmem S8x8192 .f32) (harg20 : arg20.IsWhole) (arg21 : Memref sig .tc .vmem S1x8192 .f32) (harg21 : arg21.IsWhole)
    (x1 : Vec F S256x8192 .bf16) (x2 : Vec F S256x2048 .fp8e4m3) (x3 : Vec F S256x1 .f32) (x4 : Vec F S1024x8192 .i8) (x5 : Vec F S16x8192 .bf16) (x6 : Vec F S2048x8 .bf16) (x7 : Vec F S8x8192 .bf16) (x8 : Vec F S1x8192 .f32) (x9 : Vec F S1x8192 .f32)
    (v : Vec F S2048x8192 .bf16) (g : Vec F S1x8192 .f32) (s19 : Vec F S2048x8 .f32) (s20 : Vec F S8x8192 .f32) (s21 : Vec F S1x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ owns (c : Thread nD τ) arg19 fullShare s19 ∗ owns (c : Thread nD τ) arg20 fullShare s20 ∗ owns (c : Thread nD τ) arg21 fullShare s21
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dxS (dypS x1 g) v) ∗ owns (c : Thread nD τ) arg11 fullShare (k0_pay9 (xthRec v (k0_pay5 x9 (s21S x1 x2 x3 v s21) x8) x7 (s19S x1 x2 x3 x7 g s19) 16)) ∗ owns (c : Thread nD τ) arg12 fullShare (dbS v (k0_pay5 x9 (s21S x1 x2 x3 v s21) x8) x6 (s20S x1 x2 x3 x6 g s20)) ∗ owns (c : Thread nD τ) arg13 fullShare (k0_pay4 x9 (s21S x1 x2 x3 v s21)) ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_dora_bwd_eq_skeleton]; unfold cc0_dora_bwd_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf14 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (loop3_all _ _ _ _ _ _ _ ).trans (congrArg (fun z => dxS z _) (loop2_all _ _ _ _ _ _ _ _ _ _ _ _ _ _ _ _ ).1)
  isplitl [H11]
  · iexists _; isplitr
    swap; · iexact H11
    ipureintro
    exact (read_whole _ _ _ _ _).trans (congrArg k0_pay9 ((View.ld_unit_zero hz _ _).trans ((congrArg (View.read _ _) (View.writes_append _ _ _ _)).trans ((loop4_all _ _ _ _ _ _ _ _ _ _ _ _ ).2.trans (app2 (fun g s => xthRec _ g _ s 16)
      ((read_whole _ _ _ _ _).trans (app3 k0_pay5 (View.ld_unit_zero hz _ _) ((View.ld_unit_zero hz _ _).trans ((loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _)))))) (View.ld_unit_zero hz _ _)))
      ((read_whole _ _ _ _ _).trans (app3 k0_pay1 (app2 k0_pay50 (View.ld_unit_zero hz _ _) ((View.ld_unit_zero hz _ _).trans ((read_whole _ _ _ _ _).trans (congrArg k0_pay46 (View.ld_unit_zero hz _ _))))) (View.ld_unit_zero hz _ _) (congrArg k0_pay51 ((View.ld_unit_zero hz _ _).trans ((congrArg (View.read _ _) (View.writes_append _ _ _ _)).trans ((loop2_all _ _ _ _ _ _ _ _ _ _ _ _ _ _ _ _ ).2.1.trans ((congrArg (fun z => hRec _ _ _ z 16) (read_whole _ _ _ _ _))))))))))))))
  isplitl [H12]
  · iexists _; isplitr
    swap; · iexact H12
    ipureintro
    exact (loop4_all _ _ _ _ _ _ _ _ _ _ _ _ ).1.trans (app2 (fun g o => dbS _ g _ o)
      ((read_whole _ _ _ _ _).trans (app3 k0_pay5 (View.ld_unit_zero hz _ _) ((View.ld_unit_zero hz _ _).trans ((loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _)))))) (View.ld_unit_zero hz _ _)))
      ((loop2_all _ _ _ _ _ _ _ _ _ _ _ _ _ _ _ _ ).2.2.1.trans (app3 (fun a b c => xtdS a b c _ _ _) (View.ld_unit_zero hz _ _) ((View.ld_unit_zero hz _ _).trans ((read_whole _ _ _ _ _).trans (congrArg k0_pay46 (View.ld_unit_zero hz _ _)))) (View.ld_unit_zero hz _ _))))
  isplitl [H13]
  · iexists _; isplitr
    swap; · iexact H13
    ipureintro
    exact (read_whole _ _ _ _ _).trans (app2 k0_pay4 (View.ld_unit_zero hz _ _) ((View.ld_unit_zero hz _ _).trans ((loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _)))))))
  isplitl [H14]
  · iexists f14; isplitr; · ipureintro; rfl
    iexact H14
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

end Cert.KernelIdeal.Gen
-- ==== Proof.Run.lean ====
/-
  The run of the whole program: what the scratch buffers hold between two grid points, the pipeline's proof data, the body's
  obligation at every point, and the launch. It says that every run ends, leaves the arguments as they were and leaves in each
  window's array what the proof data says.
-/
module

public import proofs.«01_k».proof.Proof.Gen.KernelIdeal.Frame
public import proofs.«01_k».proof.Proof.Body
public import Idealize.ShloMosaic.Adequacy

@[expose] public section

set_option maxRecDepth 16384
noncomputable section

namespace Cert.KernelIdeal.Gen

open Idealize.ShloMosaic Idealize.ShloMosaic.TcCoe Idealize.ShloMosaic.Tactic Cert.Tiles
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is the first and which the last -/

theorem cond1_iff : ∀ t : Fin cfg0.N, k0_cond1 (grid0.coords t) = 1#1 ↔ t.val = 0 :=
  (by decide : ∀ t : Fin grid0.N, k0_cond1 (grid0.coords t) = 1#1 ↔ t.val = 0)

theorem cond2_iff : ∀ t : Fin cfg0.N, k0_cond2 (grid0.coords t) = 1#1 ↔ t.val = 47 :=
  (by decide : ∀ t : Fin grid0.N, k0_cond2 (grid0.coords t) = 1#1 ↔ t.val = 47)

theorem N_eq : cfg0.N = 48 := N_0

theorem lt_N (t : Fin cfg0.N) : t.val < 48 := lt_of_lt_of_eq t.isLt N_eq

/-- The first point. -/
def t0 : Fin cfg0.N := ⟨0, by rw [N_eq]; decide⟩

/-! ## What is carried from one point to the next -/

/-- The adapted weight. -/
def vI (c : Dev nD) : Vec F S2048x8192 .bf16 := vS (iblk m c 3 t0) (iblk m c 4 t0) (iblk m c 5 t0) (iblk m c 6 t0)

/-- The magnitudes over the column norms. -/
def gI (c : Dev nD) : Vec F S1x8192 .f32 := k0_pay41 (iblk m c 7 t0) (iblk m c 8 t0)

/-- The first adapter matrix's accumulator after the first `n` points. -/
def S19 (c : Dev nD) : ℕ → Vec F S2048x8 .f32
  | 0 => k0_pay43
  | n + 1 => if h : n < cfg0.N then s19S (iblk m c 0 ⟨n, h⟩) (iblk m c 1 ⟨n, h⟩) (iblk m c 2 ⟨n, h⟩) (iblk m c 6 t0) (gI m c) (S19 c n) else S19 c n

/-- The second adapter matrix's. -/
def S20 (c : Dev nD) : ℕ → Vec F S8x8192 .f32
  | 0 => k0_pay44
  | n + 1 => if h : n < cfg0.N then s20S (iblk m c 0 ⟨n, h⟩) (iblk m c 1 ⟨n, h⟩) (iblk m c 2 ⟨n, h⟩) (iblk m c 5 t0) (gI m c) (S20 c n) else S20 c n

/-- The magnitudes'. -/
def S21 (c : Dev nD) : ℕ → Vec F S1x8192 .f32
  | 0 => k0_pay42
  | n + 1 => if h : n < cfg0.N then s21S (iblk m c 0 ⟨n, h⟩) (iblk m c 1 ⟨n, h⟩) (iblk m c 2 ⟨n, h⟩) (vI m c) (S21 c n) else S21 c n

theorem S19_succ (c : Dev nD) (t : Fin cfg0.N) :
    S19 m c (t.val + 1) = s19S (iblk m c 0 t) (iblk m c 1 t) (iblk m c 2 t) (iblk m c 6 t0) (gI m c) (S19 m c t.val) := by
  rw [S19, dif_pos t.isLt]

theorem S20_succ (c : Dev nD) (t : Fin cfg0.N) :
    S20 m c (t.val + 1) = s20S (iblk m c 0 t) (iblk m c 1 t) (iblk m c 2 t) (iblk m c 5 t0) (gI m c) (S20 m c t.val) := by
  rw [S20, dif_pos t.isLt]

theorem S21_succ (c : Dev nD) (t : Fin cfg0.N) :
    S21 m c (t.val + 1) = s21S (iblk m c 0 t) (iblk m c 1 t) (iblk m c 2 t) (vI m c) (S21 m c t.val) := by
  rw [S21, dif_pos t.isLt]

/-- The input's cotangent's block at a point. -/
def O9 (c : Dev nD) (t : Fin cfg0.N) : Vec F S256x2048 .bf16 := dxS (dypS (iblk m c 0 t) (gI m c)) (vI m c)
/-- The magnitudes' cotangent. -/
def O12 (c : Dev nD) : Vec F S1x8192 .f32 := k0_pay4 (iblk m c 8 t0) (S21 m c 48)
/-- The factor by which a column's part along its weight is taken off. -/
def gL (c : Dev nD) : Vec F S1x8192 .f32 := k0_pay5 (iblk m c 8 t0) (S21 m c 48) (iblk m c 7 t0)
/-- The first adapter matrix's cotangent. -/
def O10 (c : Dev nD) : Vec F S2048x8 .bf16 := k0_pay9 (xthRec (vI m c) (gL m c) (iblk m c 6 t0) (S19 m c 48) 16)
/-- The second adapter matrix's. -/
def O11 (c : Dev nD) : Vec F S8x8192 .bf16 := dbS (vI m c) (gL m c) (iblk m c 5 t0) (S20 m c 48)

/-- A scratch buffer at contents of no interest. -/
def anyAt (c : Dev nD) (b : Ref sig .tc) : sProp 𝕄 :=
  iprop(∃ f : Buf (Elt F) ((c : Thread nD τ).loc b), ((c : Thread nD τ).loc b) ↦{fullShare} f)

/-- The scratch after the first `n` points, at least one and not all. -/
def Φc (c : Dev nD) (n : ℕ) : sProp 𝕄 :=
  iprop(owns (c : Thread nD τ) (Memref.whole cc0_scratch0) fullShare (vI m c)
    ∗ anyAt c cc0_scratch1 ∗ anyAt c cc0_scratch2 ∗ anyAt c cc0_scratch3
    ∗ owns (c : Thread nD τ) (Memref.whole cc0_scratch4) fullShare (gI m c)
    ∗ owns (c : Thread nD τ) (Memref.whole cc0_scratch5) fullShare (S19 m c n)
    ∗ owns (c : Thread nD τ) (Memref.whole cc0_scratch6) fullShare (S20 m c n)
    ∗ owns (c : Thread nD τ) (Memref.whole cc0_scratch7) fullShare (S21 m c n)
    ∗ ∃ r, prngReg c r)

/-- The invariant: before the first point and after the last the scratch holds anything. -/
def Φn (c : Dev nD) (n : ℕ) : sProp 𝕄 :=
  if n = 0 ∨ n = 48 then ΦA spec0 c else Φc m c n

theorem Φn_zero (c : Dev nD) {n : ℕ} (h : n = 0) : Φn m c n = ΦA spec0 c := if_pos (.inl h)
theorem Φn_last (c : Dev nD) {n : ℕ} (h : n = 48) : Φn m c n = ΦA spec0 c := if_pos (.inr h)
theorem Φn_mid (c : Dev nD) {n : ℕ} (h : n ≠ 0) (h' : n ≠ 48) : Φn m c n = Φc m c n := if_neg (by omega)

/-! ## The pipeline's proof data -/

/-- What each window's buffer holds after the body, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => O9 m c t
    | ⟨10, _⟩ => O10 m c
    | ⟨11, _⟩ => O11 m c
    | ⟨12, _⟩ => O12 m c
  Φ t := Φn m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = O9 m c t := by dsimp only [dats]
theorem after0_10 (c : Dev nD) (t : Fin cfg0.N) : (dats m 0 c).after 10 t = O10 m c := by dsimp only [dats]
theorem after0_11 (c : Dev nD) (t : Fin cfg0.N) : (dats m 0 c).after 11 t = O11 m c := by dsimp only [dats]
theorem after0_12 (c : Dev nD) (t : Fin cfg0.N) : (dats m 0 c).after 12 t = O12 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! An input whose block never moves holds the same contents at every point. -/

theorem iblk_3 (c : Dev nD) (t : Fin cfg0.N) : iblk m c 3 t = iblk m c 3 t0 := rfl
theorem iblk_4 (c : Dev nD) (t : Fin cfg0.N) : iblk m c 4 t = iblk m c 4 t0 := rfl
theorem iblk_5 (c : Dev nD) (t : Fin cfg0.N) : iblk m c 5 t = iblk m c 5 t0 := rfl
theorem iblk_6 (c : Dev nD) (t : Fin cfg0.N) : iblk m c 6 t = iblk m c 6 t0 := rfl
theorem iblk_7 (c : Dev nD) (t : Fin cfg0.N) : iblk m c 7 t = iblk m c 7 t0 := rfl
theorem iblk_8 (c : Dev nD) (t : Fin cfg0.N) : iblk m c 8 t = iblk m c 8 t0 := rfl

/-! ## The body at a point -/

theorem anyAt_owns (c : Dev nD) (b : Ref sig .tc) :
    (anyAt c b : sProp 𝕄) ⊢ iprop(∃ d, owns (c : Thread nD τ) (Memref.whole b) fullShare d) := by
  unfold anyAt
  iintro ⟨%f, H⟩
  iexists f
  iapply (show ((c : Thread nD τ).loc b ↦{fullShare} f : sProp 𝕄) ⊢ owns (c : Thread nD τ) (Memref.whole b) fullShare f from by
    rw [owns_whole])
  iexact H

theorem owns_anyAt (c : Dev nD) (b : Ref sig .tc) :
    iprop(∃ d, owns (c : Thread nD τ) (Memref.whole b) fullShare d) ⊢ (anyAt c b : sProp 𝕄) := by
  unfold anyAt
  iintro ⟨%f, H⟩
  iexists f
  iapply (show owns (c : Thread nD τ) (Memref.whole b) fullShare f ⊢ ((c : Thread nD τ).loc b ↦{fullShare} f : sProp 𝕄) from by
    rw [owns_whole])
  iexact H

theorem owns_anyAt_of (c : Dev nD) (b : Ref sig .tc) (f : b.ty.Contents (Elt F)) :
    (owns (c : Thread nD τ) (Memref.whole b) fullShare f : sProp 𝕄) ⊢ (anyAt c b : sProp 𝕄) := by
  iintro H
  iapply (owns_anyAt c b)
  iexists f
  iexact H

/-- The scratch buffers one by one. -/
theorem ΦA_eq (c : Dev nD) : (ΦA spec0 c : sProp 𝕄) = iprop((anyAt c cc0_scratch0 ∗ anyAt c cc0_scratch1 ∗ anyAt c cc0_scratch2
    ∗ anyAt c cc0_scratch3 ∗ anyAt c cc0_scratch4 ∗ anyAt c cc0_scratch5 ∗ anyAt c cc0_scratch6 ∗ anyAt c cc0_scratch7) ∗ ∃ r, prngReg c r) := by
  unfold ΦA
  rw [scopedRest0_eq]
  rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns at a point that is not the last, where it leaves three of the outputs as it found them, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and at the last. -/
def bodyPostLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- The first point. -/
theorem body_first (c : Dev nD) (t : Fin cfg0.N) (h : t.val = 0) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Φn m c t.val from rfl, show (dats m 0 c).Φ t.succ = Φn m c (t.val + 1) from rfl,
    after0_0, after0_1, after0_2, after0_3, after0_4, after0_5, after0_6, after0_7, after0_8, after0_9,
    iblk_3 m c t, iblk_4 m c t, iblk_5 m c t, iblk_6 m c t, iblk_7 m c t, iblk_8 m c t]
  rw [Φn_zero m c h, ΦA_eq, Φn_mid m c (by omega) (by omega)]
  unfold Φc O9
  rw [S19_succ, S20_succ, S21_succ, h]
  unfold S19 S20 S21 gI vI
  iintro ⟨⟨⟨G14, G15, G16, G17, G18, G19, G20, G21⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_first c Set.univ (grid0.coords t) ((cond1_iff t).2 h) (fun h2 => by have := (cond2_iff t).1 h2; omega) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t0) (iblk m c 4 t0) (iblk m c 5 t0) (iblk m c 6 t0) (iblk m c 7 t0) (iblk m c 8 t0) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [G14]; · iapply (anyAt_owns c cc0_scratch0); iexact G14
  isplitl [G15]; · iapply (anyAt_owns c cc0_scratch1); iexact G15
  isplitl [G16]; · iapply (anyAt_owns c cc0_scratch2); iexact G16
  isplitl [G17]; · iapply (anyAt_owns c cc0_scratch3); iexact G17
  isplitl [G18]; · iapply (anyAt_owns c cc0_scratch4); iexact G18
  isplitl [G19]; · iapply (anyAt_owns c cc0_scratch5); iexact G19
  isplitl [G20]; · iapply (anyAt_owns c cc0_scratch6); iexact G20
  isplitl [G21]; · iapply (anyAt_owns c cc0_scratch7); iexact G21
  iintro ⟨H0, H1, H2, H3, H4, H5, H6, H7, H8, H9, H10, H11, H12, G14, G15, G16, G17, G18, G19, G20, G21⟩
  isplitl [G14 G15 G16 G17 G18 G19 G20 G21 Hr]
  · isplitl [G14]; · iexact G14
    isplitl [G15]; · iapply (owns_anyAt c cc0_scratch1); iexact G15
    isplitl [G16]; · iapply (owns_anyAt c cc0_scratch2); iexact G16
    isplitl [G17]; · iapply (owns_anyAt c cc0_scratch3); iexact G17
    isplitl [G18]; · iexact G18
    isplitl [G19]; · iexact G19
    isplitl [G20]; · iexact G20
    isplitl [G21]; · iexact G21
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 2000000 in
/-- A point that is neither the first nor the last. -/
theorem body_mid (c : Dev nD) (t : Fin cfg0.N) (h : t.val ≠ 0) (h' : t.val ≠ 47) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Φn m c t.val from rfl, show (dats m 0 c).Φ t.succ = Φn m c (t.val + 1) from rfl,
    after0_0, after0_1, after0_2, after0_3, after0_4, after0_5, after0_6, after0_7, after0_8, after0_9,
    iblk_3 m c t, iblk_4 m c t, iblk_5 m c t, iblk_6 m c t, iblk_7 m c t, iblk_8 m c t]
  rw [Φn_mid m c h (by omega), Φn_mid m c (by omega) (by omega)]
  unfold Φc O9
  rw [S19_succ, S20_succ, S21_succ]
  iintro ⟨⟨G14, G15, G16, G17, G18, G19, G20, G21, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_mid c Set.univ (grid0.coords t) (fun h1 => h ((cond1_iff t).1 h1)) (fun h2 => h' ((cond2_iff t).1 h2)) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t0) (iblk m c 4 t0) (iblk m c 5 t0) (iblk m c 6 t0) (iblk m c 7 t0) (iblk m c 8 t0) _ _ _ (vI m c) (gI m c) (S19 m c t.val) (S20 m c t.val) (S21 m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [G14]; · iexact G14
  isplitl [G15]; · iapply (anyAt_owns c cc0_scratch1); iexact G15
  isplitl [G16]; · iapply (anyAt_owns c cc0_scratch2); iexact G16
  isplitl [G17]; · iapply (anyAt_owns c cc0_scratch3); iexact G17
  isplitl [G18]; · iexact G18
  isplitl [G19]; · iexact G19
  isplitl [G20]; · iexact G20
  isplitl [G21]; · iexact G21
  iintro ⟨H0, H1, H2, H3, H4, H5, H6, H7, H8, H9, H10, H11, H12, G14, G15, G16, G17, G18, G19, G20, G21⟩
  isplitl [G14 G15 G16 G17 G18 G19 G20 G21 Hr]
  · isplitl [G14]; · iexact G14
    isplitl [G15]; · iapply (owns_anyAt c cc0_scratch1); iexact G15
    isplitl [G16]; · iapply (owns_anyAt c cc0_scratch2); iexact G16
    isplitl [G17]; · iapply (owns_anyAt c cc0_scratch3); iexact G17
    isplitl [G18]; · iexact G18
    isplitl [G19]; · iexact G19
    isplitl [G20]; · iexact G20
    isplitl [G21]; · iexact G21
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 2000000 in
/-- The last point. -/
theorem body_last (c : Dev nD) (t : Fin cfg0.N) (h : t.val = 47) :
    bodyPre m c t ⊢ wp frame (wpE (defs₀ (F := F)) Variants.none c none) Set.univ (bodyAt0 t) (fun _ => bodyPostLast m c t) := by
  have hN := lt_N t
  unfold bodyPre bodyPostLast bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Φn m c t.val from rfl, show (dats m 0 c).Φ t.succ = Φn m c (t.val + 1) from rfl,
    after0_0, after0_1, after0_2, after0_3, after0_4, after0_5, after0_6, after0_7, after0_8, after0_9, after0_10, after0_11, after0_12,
    iblk_3 m c t, iblk_4 m c t, iblk_5 m c t, iblk_6 m c t, iblk_7 m c t, iblk_8 m c t]
  rw [Φn_mid m c (by omega) (by omega), Φn_last m c (by omega), ΦA_eq]
  unfold Φc O9 O10 O11 O12 gL
  rw [show 48 = t.val + 1 from by omega, S19_succ, S20_succ, S21_succ]
  iintro ⟨⟨G14, G15, G16, G17, G18, G19, G20, G21, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_last c Set.univ (grid0.coords t) (fun h1 => by have := (cond1_iff t).1 h1; omega) ((cond2_iff t).2 h) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t0) (iblk m c 4 t0) (iblk m c 5 t0) (iblk m c 6 t0) (iblk m c 7 t0) (iblk m c 8 t0) (vI m c) (gI m c) (S19 m c t.val) (S20 m c t.val) (S21 m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [G14]; · iexact G14
  isplitl [G15]; · iapply (anyAt_owns c cc0_scratch1); iexact G15
  isplitl [G16]; · iapply (anyAt_owns c cc0_scratch2); iexact G16
  isplitl [G17]; · iapply (anyAt_owns c cc0_scratch3); iexact G17
  isplitl [G18]; · iexact G18
  isplitl [G19]; · iexact G19
  isplitl [G20]; · iexact G20
  isplitl [G21]; · iexact G21
  iintro ⟨H0, H1, H2, H3, H4, H5, H6, H7, H8, H9, H10, H11, H12, G14, G15, G16, G17, G18, G19, G20, G21⟩
  isplitl [G14 G15 G16 G17 G18 G19 G20 G21 Hr]
  · isplitl [G14 G15 G16 G17 G18 G19 G20 G21]
    · isplitl [G14]; · iapply (owns_anyAt_of c cc0_scratch0 _); iexact G14
      isplitl [G15]; · iapply (owns_anyAt c cc0_scratch1); iexact G15
      isplitl [G16]; · iapply (owns_anyAt c cc0_scratch2); iexact G16
      isplitl [G17]; · iapply (owns_anyAt c cc0_scratch3); iexact G17
      isplitl [G18]; · iapply (owns_anyAt c cc0_scratch4); iexact G18
      isplitl [G19]; · iapply (owns_anyAt c cc0_scratch5); iexact G19
      isplitl [G20]; · iapply (owns_anyAt c cc0_scratch6); iexact G20
      iapply (owns_anyAt c cc0_scratch7); iexact G21
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Gen
-- ==== Proof.Launch.lean ====
/-
  The body's obligation at every grid point, the launch, and the program's frame: every run ends with the arguments as they were
  and every counter at zero.
-/
module

public import proofs.«01_k».proof.Proof.Gen.KernelIdeal.Frame
public import proofs.«01_k».proof.Proof.Run
public import Idealize.ShloMosaic.Lib.Claim
public import Idealize.ShloMosaic.Adequacy

@[expose] public section

set_option maxRecDepth 16384
noncomputable section

namespace Cert.KernelIdeal.Gen

open Idealize.ShloMosaic Idealize.ShloMosaic.TcCoe Idealize.ShloMosaic.Tactic Cert.Tiles
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem idle_10 (t : Fin cfg0.N) (h : t.val ≠ 47) : cfg0.idle 10 (cfg0.grid.coords t) = true := by
  show (!(k0_cond2 (grid0.coords t) == 1#1)) = true
  have : ¬ k0_cond2 (grid0.coords t) = 1#1 := fun h2 => h ((cond2_iff t).1 h2)
  simp [this]
theorem live_10 (t : Fin cfg0.N) (h : t.val = 47) : cfg0.idle 10 (cfg0.grid.coords t) = false := by
  show (!(k0_cond2 (grid0.coords t) == 1#1)) = false
  simp [(cond2_iff t).2 h]
theorem noflush_10 (t : Fin cfg0.N) (h : t.val ≠ 47) : (cfg0.win 10).flush t = false :=
  Bool.eq_false_iff.mpr fun hf => by have := (flush0_10 t).1 hf; have := lt_N t; omega
theorem noflush_11 (t : Fin cfg0.N) (h : t.val ≠ 47) : (cfg0.win 11).flush t = false :=
  Bool.eq_false_iff.mpr fun hf => by have := (flush0_11 t).1 hf; have := lt_N t; omega
theorem noflush_12 (t : Fin cfg0.N) (h : t.val ≠ 47) : (cfg0.win 12).flush t = false :=
  Bool.eq_false_iff.mpr fun hf => by have := (flush0_12 t).1 hf; have := lt_N t; omega

/-- The body's obligation, at every point. -/
theorem body_obligation (c : Dev nD) : BodyObligation (dats (F := F) m 0 c) (defs₀ (F := F)) Variants.none () Set.univ := fun t => by
  rw [bigSep_W0, bigSep_W0, defs₀_row]
  by_cases hl : t.val = 47
  · rw [live_10 t hl]
    exact triple_restated (body_last m c t hl) rfl .rfl fun _ => .rfl
  · rw [idle_10 t hl, noflush_10 t hl, noflush_11 t hl, noflush_12 t hl]
    by_cases h0 : t.val = 0
    · exact triple_restated (body_first m c t h0) rfl .rfl fun _ => .rfl
    · exact triple_restated (body_mid m c t h0 hl) rfl .rfl fun _ => .rfl

/-! ## The launch -/

set_option backward.isDefEq.respectTransparency.types false in
set_option maxHeartbeats 800000 in
/-- Every run ends with each window's array at what the proof data says, every other buffer at what the lines around the region
    leave there, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Φn m c 0 from rfl, Φn_zero m c rfl])
    (hout := fun c => by
      rw [show (dats m 0 c).Φ (Fin.last (cfgs 0).N) = Φn m c cfg0.N from rfl, Φn_last m c N_eq])
    (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.KernelIdeal.Gen
-- ==== Proof.Low.Spec.lean ====
/-
  What one grid point of the kernel computes, as functions of the matrices it reads: the dequantised weight the first
  point builds chunk by chunk, the scaled cotangent, the accumulators, and the results the last point stores. The
  arithmetic is the program's own, named by the payloads of its stores; only the tiling into chunks is spelt out here.
-/
module

public import proofs.«01_k».proof.Proof.Gen.Kernel.Skeleton
public import proofs.«01_k».proof.Proof.Tiles

@[expose] public section

set_option maxRecDepth 16384
noncomputable section

namespace Cert.Kernel.Gen

open Idealize.ShloMosaic Idealize.ShloMosaic.TcCoe Cert.Tiles

variable {F : FTy → Type} [FloatOps F]

theorem h16 : 8192 = 512 * 16 := rfl
theorem h4 : 2048 = 512 * 4 := rfl
theorem hr16 : 2048 = 128 * 16 := rfl

/-- One block of 128 rows and 512 columns of the adapted weight. -/
def vBlk (wp : Vec F S1024x8192 .i8) (ws : Vec F S16x8192 .bf16) (a : Vec F S2048x8 .bf16) (b : Vec F S8x8192 .bf16)
    (k g : Fin 16) : Vec F S128x512 .bf16 :=
  k0_pay10 (win wp (64 * g.val) (512 * k.val) 64 512 (by omega) (by omega)) (win ws g.val (512 * k.val) 1 512 (by omega) (by omega))
    (win a (128 * g.val) 0 128 8 (by omega) (by omega)) (win b 0 (512 * k.val) 8 512 (by omega) (by omega))

/-- The adapted weight. -/
def vS (wp : Vec F S1024x8192 .i8) (ws : Vec F S16x8192 .bf16) (a : Vec F S2048x8 .bf16) (b : Vec F S8x8192 .bf16) :
    Vec F S2048x8192 .bf16 := asm2 hr16 h16 (vBlk wp ws a b)

/-- The cotangent scaled by the gain. -/
def dypS (dy : Vec F S256x8192 .bf16) (g : Vec F S1x8192 .f32) : Vec F S256x8192 .bf16 :=
  asm h16 fun k => k0_pay38 (cols h16 dy k) (cols h16 g k)

/-- The accumulator of the second adapter matrix after one more point. -/
def xtdS (xs : Vec F S256x1 .f32) (xb : Vec F S256x2048 .bf16) (a : Vec F S2048x8 .bf16) (dy : Vec F S256x8192 .bf16)
    (g : Vec F S1x8192 .f32) (old : Vec F S8x8192 .f32) : Vec F S8x8192 .f32 :=
  asm h16 fun k => k0_pay49 xs xb a (k0_pay37 (cols h16 dy k) (cols h16 g k)) (cols h16 old k)

/-- The accumulator of the magnitudes after one more point. -/
def dmaS (xs : Vec F S256x1 .f32) (xb : Vec F S256x2048 .bf16) (dy : Vec F S256x8192 .bf16) (v : Vec F S2048x8192 .bf16)
    (old : Vec F S1x8192 .f32) : Vec F S1x8192 .f32 :=
  asm h16 fun k => k0_pay39 (k0_pay47 xs) (cols h16 dy k) xb (cols h16 v k) (cols h16 old k)

/-- The product of the scaled cotangent and the second adapter matrix, over the first `k` chunks. -/
def hRec (dy : Vec F S256x8192 .bf16) (g : Vec F S1x8192 .f32) (b : Vec F S8x8192 .bf16) (h0 : Vec F S256x8 .f32) :
    ℕ → Vec F S256x8 .f32
  | 0 => h0
  | k + 1 => if h : k < 16 then
      k0_pay40 (cols h16 dy ⟨k, h⟩) (cols h16 g ⟨k, h⟩) (hRec dy g b h0 k) (cols h16 b ⟨k, h⟩)
    else hRec dy g b h0 k

/-- The input's cotangent. -/
def dxS (dyp : Vec F S256x8192 .bf16) (v : Vec F S2048x8192 .bf16) : Vec F S256x2048 .bf16 :=
  asm h4 fun k => k0_pay2 dyp (win v (512 * k.val) 0 512 8192 (by omega) (by omega))

/-- The second adapter matrix's cotangent. -/
def dbS (v : Vec F S2048x8192 .bf16) (g : Vec F S1x8192 .f32) (a : Vec F S2048x8 .bf16) (xtd : Vec F S8x8192 .f32) :
    Vec F S8x8192 .bf16 :=
  asm h16 fun k => k0_pay7 (cols h16 v k) (cols h16 g k) a (cols h16 xtd k)

/-- The first adapter matrix's accumulator less the correction of the first `k` chunks. -/
def xthRec (v : Vec F S2048x8192 .bf16) (g : Vec F S1x8192 .f32) (b : Vec F S8x8192 .bf16) (x0 : Vec F S2048x8 .f32) :
    ℕ → Vec F S2048x8 .f32
  | 0 => x0
  | k + 1 => if h : k < 16 then
      k0_pay8 (cols h16 v ⟨k, h⟩) (cols h16 g ⟨k, h⟩) (xthRec v g b x0 k) (cols h16 b ⟨k, h⟩)
    else xthRec v g b x0 k

end Cert.Kernel.Gen
-- ==== Proof.Low.Loop.lean ====
/-
  What the kernel's four counted loops leave in the buffers they write, as the functions of Spec.lean.
-/
module

public import proofs.«01_k».proof.Proof.Gen.Kernel.Loops
public import proofs.«01_k».proof.Proof.Low.Spec
public import Idealize.ShloMosaic.Lib.Pipeline.Value

@[expose] public section

set_option maxRecDepth 16384
noncomputable section

namespace Cert.Kernel.Gen

open Idealize.ShloMosaic Idealize.ShloMosaic.TcCoe Cert.Tiles

variable {F : FTy → Type} [FloatOps F]

theorem hz : (![0, 0] : Fin 2 → Nat) = fun _ => 0 := funext fun a => by fin_cases a <;> rfl

variable (𝒱 : Variants) (c : Dev nD) (bd : Option 𝒱.V) (i : grid0.Coords) {arg1 : Memref sig .tc .vmem S256x8192 .bf16} {harg1 : arg1.IsWhole} {arg2 : Memref sig .tc .vmem S256x2048 .fp8e4m3} {harg2 : arg2.IsWhole} {arg3 : Memref sig .tc .vmem S256x1 .f32} {harg3 : arg3.IsWhole} {arg4 : Memref sig .tc .vmem S1024x8192 .i8} {harg4 : arg4.IsWhole} {arg5 : Memref sig .tc .vmem S16x8192 .bf16} {harg5 : arg5.IsWhole} {arg6 : Memref sig .tc .vmem S2048x8 .bf16} {harg6 : arg6.IsWhole} {arg7 : Memref sig .tc .vmem S8x8192 .bf16} {harg7 : arg7.IsWhole} {arg8 : Memref sig .tc .vmem S1x8192 .f32} {harg8 : arg8.IsWhole} {arg9 : Memref sig .tc .vmem S1x8192 .f32} {harg9 : arg9.IsWhole} {arg10 : Memref sig .tc .vmem S256x2048 .bf16} {harg10 : arg10.IsWhole} {arg11 : Memref sig .tc .vmem S2048x8 .bf16} {harg11 : arg11.IsWhole} {arg12 : Memref sig .tc .vmem S8x8192 .bf16} {harg12 : arg12.IsWhole} {arg13 : Memref sig .tc .vmem S1x8192 .f32} {harg13 : arg13.IsWhole} {arg14 : Memref sig .tc .vmem S2048x8192 .bf16} {harg14 : arg14.IsWhole} {arg15 : Memref sig .tc .vmem S256x8192 .bf16} {harg15 : arg15.IsWhole} {arg16 : Memref sig .tc .vmem S256x2048 .bf16} {harg16 : arg16.IsWhole} {arg17 : Memref sig .tc .vmem S256x8 .f32} {harg17 : arg17.IsWhole} {arg18 : Memref sig .tc .vmem S1x8192 .f32} {harg18 : arg18.IsWhole} {arg19 : Memref sig .tc .vmem S2048x8 .f32} {harg19 : arg19.IsWhole} {arg20 : Memref sig .tc .vmem S8x8192 .f32} {harg20 : arg20.IsWhole} {arg21 : Memref sig .tc .vmem S1x8192 .f32} {harg21 : arg21.IsWhole}

theorem trips_t3 : k0_t3_loop.trips = 4 := by decide +kernel
theorem lt_t3 (k : Fin k0_t3_loop.trips) : k.val < 4 := trips_t3 ▸ k.isLt
theorem trips_t1 : k0_t1_loop.trips = 16 := by decide +kernel
theorem lt_t1 (k : Fin k0_t1_loop.trips) : k.val < 16 := trips_t1 ▸ k.isLt
theorem trips_t2 : k0_t2_loop.trips = 16 := by decide +kernel
theorem lt_t2 (k : Fin k0_t2_loop.trips) : k.val < 16 := trips_t2 ▸ k.isLt
theorem trips_t4 : k0_t4_loop.trips = 16 := by decide +kernel
theorem lt_t4 (k : Fin k0_t4_loop.trips) : k.val < 16 := trips_t4 ▸ k.isLt

/-- One trip of the loop over the row chunks of the adapted weight stores one chunk of columns of the input's cotangent. -/
theorem trip3_eq (X_arg14 : BufTy.Contents (Elt F) arg14.view.ty) (X_arg15 : BufTy.Contents (Elt F) arg15.view.ty) (k : Fin k0_t3_loop.trips) :
    ∃ inb w, tripL_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 k = [⟨Rect.unit (s := M 256 2048) (k0_off55 k) ![256, 512] inb, w⟩] ∧
      w = k0_pay2 (arg15.view.read (Elt F) X_arg15) (win (R := 2048) (C := 8192) (arg14.view.read (Elt F) X_arg14) (512 * k.val) 0 512 8192 (by have := lt_t3 k; omega) (by omega)) := by
  unfold tripL_k0_t3 trip_k0_t3
  refine ⟨_, _, rfl, ?_⟩
  exact app2 k0_pay2 (View.ld_unit_zero hz _ _) (ld_win _ _ (k0_off54_eq k) _ _)

/-- After `k` trips. -/
theorem loop3 (X_arg14 : BufTy.Contents (Elt F) arg14.view.ty) (X_arg15 : BufTy.Contents (Elt F) arg15.view.ty) (G_arg10 : BufTy.Contents (Elt F) arg10.view.ty) : ∀ k : ℕ, k ≤ 4 → ∀ y : (M 256 2048).Idx,
    arg10.view.read (Elt F) (arg10.view.writes (Elt F) G_arg10 (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 k)) y
      = if (y 1).val < 512 * k then dxS (arg15.view.read (Elt F) X_arg15) (arg14.view.read (Elt F) X_arg14) y else arg10.view.read (Elt F) G_arg10 y
  | 0, _, y => by rw [if_neg (by omega)]; rfl
  | k + 1, hk, y => by
    have hk' : k < k0_t3_loop.trips := by rw [trips_t3]; omega
    obtain ⟨inb, w, hw, hp⟩ := trip3_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) X_arg14 X_arg15 ⟨k, hk'⟩
    rw [pb_k0_t3_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 ⟨k, hk'⟩, hw]
    exact read_chunk _ _ h4 _ ⟨k, by omega⟩ _ inb (k0_off55_eq ⟨k, hk'⟩) w hp _
      (fun y => loop3 X_arg14 X_arg15 G_arg10 k (by omega) y) y

theorem loop3_all (X_arg14 : BufTy.Contents (Elt F) arg14.view.ty) (X_arg15 : BufTy.Contents (Elt F) arg15.view.ty) (G_arg10 : BufTy.Contents (Elt F) arg10.view.ty) :
    arg10.view.read (Elt F) (arg10.view.writes (Elt F) G_arg10 (pb_k0_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg14 X_arg15 k0_t3_loop.trips))
      = dxS (arg15.view.read (Elt F) X_arg15) (arg14.view.read (Elt F) X_arg14) :=
  read_chunks_all _ _ h4 _ _ _ (fun y => (loop3 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) X_arg14 X_arg15 G_arg10 k0_t3_loop.trips (le_of_eq trips_t3) y).trans (by rw [trips_t3]; rfl))

/-- One trip of the loop over the column chunks: what it stores, from what the buffers read. -/
theorem trip2_eq (v9 : Vec F S256x1 .f32) (v11 : Vec F S256x2048 .bf16) (v12 : Vec F S2048x8 .bf16) (X_arg1 : BufTy.Contents (Elt F) arg1.view.ty) (X_arg7 : BufTy.Contents (Elt F) arg7.view.ty) (X_arg14 : BufTy.Contents (Elt F) arg14.view.ty) (X_arg16 : BufTy.Contents (Elt F) arg16.view.ty) (X_arg18 : BufTy.Contents (Elt F) arg18.view.ty) (k : Fin k0_t2_loop.trips) (f_arg15 : BufTy.Contents (Elt F) arg15.view.ty) (f_arg17 : BufTy.Contents (Elt F) arg17.view.ty) (f_arg20 : BufTy.Contents (Elt F) arg20.view.ty) (f_arg21 : BufTy.Contents (Elt F) arg21.view.ty) (m : Fin 16) (hm : m.val = k.val) :
    tripL_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 k f_arg15 f_arg17 f_arg20 f_arg21 =
      ([⟨Rect.unit (s := M 256 8192) (k0_off50 k) ![256, 512] (k0_off50_inb k),
          k0_pay38 (cols h16 (arg1.view.read (Elt F) X_arg1) m) (cols h16 (arg18.view.read (Elt F) X_arg18) m)⟩],
       [⟨Rect.unit (s := M 256 8) ![0, 0] ![256, 8] inb_S256x8_S256x8_0_0,
          k0_pay40 (cols h16 (arg1.view.read (Elt F) X_arg1) m) (cols h16 (arg18.view.read (Elt F) X_arg18) m) (arg17.view.read (Elt F) f_arg17)
            (cols h16 (arg7.view.read (Elt F) X_arg7) m)⟩],
       [⟨Rect.unit (s := M 8 8192) (k0_off53 k) ![8, 512] (k0_off53_inb k),
          k0_pay49 v9 v11 v12 (k0_pay37 (cols h16 (arg1.view.read (Elt F) X_arg1) m) (cols h16 (arg18.view.read (Elt F) X_arg18) m))
            (cols h16 (arg20.view.read (Elt F) f_arg20) m)⟩],
       [⟨Rect.unit (s := M 1 8192) (k0_off51 k) ![1, 512] (k0_off51_inb k),
          k0_pay39 (k0_pay47 v9) (cols h16 (arg1.view.read (Elt F) X_arg1) m) (arg16.view.read (Elt F) X_arg16) (cols h16 (arg14.view.read (Elt F) X_arg14) m)
            (cols h16 (arg21.view.read (Elt F) f_arg21) m)⟩]) := by
  obtain rfl : m = ⟨k.val, lt_t2 k⟩ := Fin.ext hm
  unfold tripL_k0_t2 trip_k0_t2
  dsimp only
  exact app4 (fun a b c d => (a, b, c, d))
    (one_piece (Val := Elt F) (e := .bf16) (s := M 256 8192) _ (app2 k0_pay38 (ld_win _ _ (k0_off50_eq k) _ _) (ld_win _ _ (k0_off51_eq k) _ _)))
    (one_piece (Val := Elt F) (e := .f32) (s := M 256 8) _ (app4 k0_pay40 (ld_win _ _ (k0_off50_eq k) _ _) (ld_win _ _ (k0_off51_eq k) _ _) (View.ld_unit_zero hz _ _)
      (ld_win _ _ (k0_off53_eq k) _ _)))
    (one_piece (Val := Elt F) (e := .f32) (s := M 8 8192) _ (app5 k0_pay49 rfl rfl rfl (app2 k0_pay37 (ld_win _ _ (k0_off50_eq k) _ _) (ld_win _ _ (k0_off51_eq k) _ _))
      (ld_win _ _ (k0_off53_eq k) _ _)))
    (one_piece (Val := Elt F) (e := .f32) (s := M 1 8192) _ (app5 k0_pay39 rfl (ld_win _ _ (k0_off50_eq k) _ _) (View.ld_unit_zero hz _ _) (ld_win _ _ (k0_off52_eq k) _ _)
      (ld_win _ _ (k0_off51_eq k) _ _)))

/-- After `k` trips. -/
theorem loop2 (v9 : Vec F S256x1 .f32) (v11 : Vec F S256x2048 .bf16) (v12 : Vec F S2048x8 .bf16) (X_arg1 : BufTy.Contents (Elt F) arg1.view.ty) (X_arg7 : BufTy.Contents (Elt F) arg7.view.ty) (X_arg14 : BufTy.Contents (Elt F) arg14.view.ty) (X_arg16 : BufTy.Contents (Elt F) arg16.view.ty) (X_arg18 : BufTy.Contents (Elt F) arg18.view.ty) (G_arg15 : BufTy.Contents (Elt F) arg15.view.ty) (G_arg17 : BufTy.Contents (Elt F) arg17.view.ty) (G_arg20 : BufTy.Contents (Elt F) arg20.view.ty) (G_arg21 : BufTy.Contents (Elt F) arg21.view.ty) : ∀ k : ℕ, k ≤ 16 →
    (∀ y : (M 256 8192).Idx, arg15.view.read (Elt F) (arg15.view.writes (Elt F) G_arg15 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).1) y
      = if (y 1).val < 512 * k then dypS (arg1.view.read (Elt F) X_arg1) (arg18.view.read (Elt F) X_arg18) y else arg15.view.read (Elt F) G_arg15 y)
    ∧ (arg17.view.read (Elt F) (arg17.view.writes (Elt F) G_arg17 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).2.1)
      = hRec (arg1.view.read (Elt F) X_arg1) (arg18.view.read (Elt F) X_arg18) (arg7.view.read (Elt F) X_arg7) (arg17.view.read (Elt F) G_arg17) k)
    ∧ (∀ y : (M 8 8192).Idx, arg20.view.read (Elt F) (arg20.view.writes (Elt F) G_arg20 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).2.2.1) y
      = if (y 1).val < 512 * k then xtdS v9 v11 v12 (arg1.view.read (Elt F) X_arg1) (arg18.view.read (Elt F) X_arg18) (arg20.view.read (Elt F) G_arg20) y else arg20.view.read (Elt F) G_arg20 y)
    ∧ (∀ y : (M 1 8192).Idx, arg21.view.read (Elt F) (arg21.view.writes (Elt F) G_arg21 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k).2.2.2) y
      = if (y 1).val < 512 * k then dmaS v9 (arg16.view.read (Elt F) X_arg16) (arg1.view.read (Elt F) X_arg1) (arg14.view.read (Elt F) X_arg14) (arg21.view.read (Elt F) G_arg21) y else arg21.view.read (Elt F) G_arg21 y)
  | 0, _ => ⟨fun y => by rw [if_neg (by omega)]; rfl, rfl, fun y => by rw [if_neg (by omega)]; rfl, fun y => by rw [if_neg (by omega)]; rfl⟩
  | k + 1, hk => by
    have hk' : k < k0_t2_loop.trips := by rw [trips_t2]; omega
    have hk16 : k < 16 := by omega
    obtain ⟨h1, h2, h3, h4⟩ := loop2 v9 v11 v12 X_arg1 X_arg7 X_arg14 X_arg16 X_arg18 G_arg15 G_arg17 G_arg20 G_arg21 k (by omega)
    rw [pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 ⟨k, hk'⟩,
      trip2_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) v9 v11 v12 X_arg1 X_arg7 X_arg14 X_arg16 X_arg18 ⟨k, hk'⟩ _ _ _ _ ⟨k, hk16⟩ rfl]
    dsimp only
    generalize pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k = p at h1 h2 h3 h4 ⊢
    refine ⟨fun y => ?_, ?_, fun y => ?_, fun y => ?_⟩
    · exact read_chunk _ _ h16 _ ⟨k, hk16⟩ _ (k0_off50_inb ⟨k, hk'⟩) (k0_off50_eq ⟨k, hk'⟩) _ rfl _ h1 y
    · refine (read_whole _ _ _ _ _).trans ?_
      rw [h2]
      rw [hRec.eq_2, dif_pos hk16]
    · exact read_chunk _ _ h16 _ ⟨k, hk16⟩ _ (k0_off53_inb ⟨k, hk'⟩) (k0_off53_eq ⟨k, hk'⟩) _
        (congrArg (k0_pay49 _ _ _ _) (cols_old _ _ h16 _ ⟨k, hk16⟩ _ _ h3)) _ h3 y
    · exact read_chunk _ _ h16 _ ⟨k, hk16⟩ _ (k0_off51_inb ⟨k, hk'⟩) (k0_off51_eq ⟨k, hk'⟩) _
        (congrArg (k0_pay39 _ _ _ _) (cols_old _ _ h16 _ ⟨k, hk16⟩ _ _ h4)) _ h4 y

theorem loop2_all (v9 : Vec F S256x1 .f32) (v11 : Vec F S256x2048 .bf16) (v12 : Vec F S2048x8 .bf16) (X_arg1 : BufTy.Contents (Elt F) arg1.view.ty) (X_arg7 : BufTy.Contents (Elt F) arg7.view.ty) (X_arg14 : BufTy.Contents (Elt F) arg14.view.ty) (X_arg16 : BufTy.Contents (Elt F) arg16.view.ty) (X_arg18 : BufTy.Contents (Elt F) arg18.view.ty) (G_arg15 : BufTy.Contents (Elt F) arg15.view.ty) (G_arg17 : BufTy.Contents (Elt F) arg17.view.ty) (G_arg20 : BufTy.Contents (Elt F) arg20.view.ty) (G_arg21 : BufTy.Contents (Elt F) arg21.view.ty) :
    (arg15.view.read (Elt F) (arg15.view.writes (Elt F) G_arg15 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).1)
      = dypS (arg1.view.read (Elt F) X_arg1) (arg18.view.read (Elt F) X_arg18))
    ∧ (arg17.view.read (Elt F) (arg17.view.writes (Elt F) G_arg17 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).2.1)
      = hRec (arg1.view.read (Elt F) X_arg1) (arg18.view.read (Elt F) X_arg18) (arg7.view.read (Elt F) X_arg7) (arg17.view.read (Elt F) G_arg17) 16)
    ∧ (arg20.view.read (Elt F) (arg20.view.writes (Elt F) G_arg20 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).2.2.1)
      = xtdS v9 v11 v12 (arg1.view.read (Elt F) X_arg1) (arg18.view.read (Elt F) X_arg18) (arg20.view.read (Elt F) G_arg20))
    ∧ (arg21.view.read (Elt F) (arg21.view.writes (Elt F) G_arg21 (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v9 v11 v12 X_arg1 X_arg7 X_arg14 X_arg16 X_arg18 G_arg15 G_arg17 G_arg20 G_arg21 k0_t2_loop.trips).2.2.2)
      = dmaS v9 (arg16.view.read (Elt F) X_arg16) (arg1.view.read (Elt F) X_arg1) (arg14.view.read (Elt F) X_arg14) (arg21.view.read (Elt F) G_arg21)) := by
  rw [trips_t2]
  obtain ⟨h1, h2, h3, h4⟩ := loop2 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) v9 v11 v12 X_arg1 X_arg7 X_arg14 X_arg16 X_arg18 G_arg15 G_arg17 G_arg20 G_arg21 16 le_rfl
  exact ⟨read_chunks_all _ _ h16 _ _ _ h1, h2, read_chunks_all _ _ h16 _ _ _ h3, read_chunks_all _ _ h16 _ _ _ h4⟩

/-- One trip of the loop over the column chunks at the last point. -/
theorem trip4_eq (k0_h2 : k0_cond2 i = 1#1) (X_arg6 : BufTy.Contents (Elt F) arg6.view.ty) (X_arg7 : BufTy.Contents (Elt F) arg7.view.ty) (X_arg14 : BufTy.Contents (Elt F) arg14.view.ty) (X_arg18 : BufTy.Contents (Elt F) arg18.view.ty) (X_arg20 : BufTy.Contents (Elt F) arg20.view.ty) (k : Fin k0_t4_loop.trips) (f_arg12 : BufTy.Contents (Elt F) arg12.view.ty) (f_arg19 : BufTy.Contents (Elt F) arg19.view.ty) (m : Fin 16) (hm : m.val = k.val) :
    tripL_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 k f_arg12 f_arg19 =
      ([⟨Rect.unit (s := M 8 8192) (k0_off58 k) ![8, 512] (k0_off58_inb i k k0_h2),
          k0_pay7 (cols h16 (arg14.view.read (Elt F) X_arg14) m) (cols h16 (arg18.view.read (Elt F) X_arg18) m) (arg6.view.read (Elt F) X_arg6)
            (cols h16 (arg20.view.read (Elt F) X_arg20) m)⟩],
       [⟨Rect.unit (s := M 2048 8) ![0, 0] ![2048, 8] inb_S2048x8_S2048x8_0_0,
          k0_pay8 (cols h16 (arg14.view.read (Elt F) X_arg14) m) (cols h16 (arg18.view.read (Elt F) X_arg18) m) (arg19.view.read (Elt F) f_arg19)
            (cols h16 (arg7.view.read (Elt F) X_arg7) m)⟩]) := by
  obtain rfl : m = ⟨k.val, lt_t4 k⟩ := Fin.ext hm
  unfold tripL_k0_t4 trip_k0_t4
  dsimp only
  exact app2 (fun a b => (a, b))
    (one_piece (Val := Elt F) (e := .bf16) (s := M 8 8192) _ (app4 k0_pay7 (ld_win _ _ (k0_off56_eq k) _ _) (ld_win _ _ (k0_off57_eq k) _ _) (View.ld_unit_zero hz _ _)
      (ld_win _ _ (k0_off58_eq k) _ _)))
    (one_piece (Val := Elt F) (e := .f32) (s := M 2048 8) _ (app4 k0_pay8 (ld_win _ _ (k0_off56_eq k) _ _) (ld_win _ _ (k0_off57_eq k) _ _) (View.ld_unit_zero hz _ _)
      (ld_win _ _ (k0_off58_eq k) _ _)))

/-- After `k` trips. -/
theorem loop4 (k0_h2 : k0_cond2 i = 1#1) (X_arg6 : BufTy.Contents (Elt F) arg6.view.ty) (X_arg7 : BufTy.Contents (Elt F) arg7.view.ty) (X_arg14 : BufTy.Contents (Elt F) arg14.view.ty) (X_arg18 : BufTy.Contents (Elt F) arg18.view.ty) (X_arg20 : BufTy.Contents (Elt F) arg20.view.ty) (G_arg12 : BufTy.Contents (Elt F) arg12.view.ty) (G_arg19 : BufTy.Contents (Elt F) arg19.view.ty) : ∀ k : ℕ, k ≤ 16 →
    (∀ y : (M 8 8192).Idx, arg12.view.read (Elt F) (arg12.view.writes (Elt F) G_arg12 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k).1) y
      = if (y 1).val < 512 * k then dbS (arg14.view.read (Elt F) X_arg14) (arg18.view.read (Elt F) X_arg18) (arg6.view.read (Elt F) X_arg6) (arg20.view.read (Elt F) X_arg20) y else arg12.view.read (Elt F) G_arg12 y)
    ∧ (arg19.view.read (Elt F) (arg19.view.writes (Elt F) G_arg19 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k).2)
      = xthRec (arg14.view.read (Elt F) X_arg14) (arg18.view.read (Elt F) X_arg18) (arg7.view.read (Elt F) X_arg7) (arg19.view.read (Elt F) G_arg19) k)
  | 0, _ => ⟨fun y => by rw [if_neg (by omega)]; rfl, rfl⟩
  | k + 1, hk => by
    have hk' : k < k0_t4_loop.trips := by rw [trips_t4]; omega
    have hk16 : k < 16 := by omega
    obtain ⟨h1, h2⟩ := loop4 k0_h2 X_arg6 X_arg7 X_arg14 X_arg18 X_arg20 G_arg12 G_arg19 k (by omega)
    rw [pb_k0_t4_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 ⟨k, hk'⟩,
      trip4_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h2 X_arg6 X_arg7 X_arg14 X_arg18 X_arg20 ⟨k, hk'⟩ _ _ ⟨k, hk16⟩ rfl]
    dsimp only
    generalize pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k = p at h1 h2 ⊢
    refine ⟨fun y => ?_, ?_⟩
    · exact read_chunk _ _ h16 _ ⟨k, hk16⟩ _ (k0_off58_inb i ⟨k, hk'⟩ k0_h2) (k0_off58_eq ⟨k, hk'⟩) _ rfl _ h1 y
    · refine (read_whole _ _ _ _ _).trans ?_
      rw [h2]
      rw [xthRec.eq_2, dif_pos hk16]

theorem loop4_all (k0_h2 : k0_cond2 i = 1#1) (X_arg6 : BufTy.Contents (Elt F) arg6.view.ty) (X_arg7 : BufTy.Contents (Elt F) arg7.view.ty) (X_arg14 : BufTy.Contents (Elt F) arg14.view.ty) (X_arg18 : BufTy.Contents (Elt F) arg18.view.ty) (X_arg20 : BufTy.Contents (Elt F) arg20.view.ty) (G_arg12 : BufTy.Contents (Elt F) arg12.view.ty) (G_arg19 : BufTy.Contents (Elt F) arg19.view.ty) :
    (arg12.view.read (Elt F) (arg12.view.writes (Elt F) G_arg12 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k0_t4_loop.trips).1)
      = dbS (arg14.view.read (Elt F) X_arg14) (arg18.view.read (Elt F) X_arg18) (arg6.view.read (Elt F) X_arg6) (arg20.view.read (Elt F) X_arg20))
    ∧ (arg19.view.read (Elt F) (arg19.view.writes (Elt F) G_arg19 (pb_k0_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 X_arg6 X_arg7 X_arg14 X_arg18 X_arg20 G_arg12 G_arg19 k0_t4_loop.trips).2)
      = xthRec (arg14.view.read (Elt F) X_arg14) (arg18.view.read (Elt F) X_arg18) (arg7.view.read (Elt F) X_arg7) (arg19.view.read (Elt F) G_arg19) 16) := by
  rw [trips_t4]
  obtain ⟨h1, h2⟩ := loop4 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h2 X_arg6 X_arg7 X_arg14 X_arg18 X_arg20 G_arg12 G_arg19 16 le_rfl
  exact ⟨read_chunks_all _ _ h16 _ _ _ h1, h2⟩

/-- The block `(k, g)` of the adapted weight, as a store. -/
def vPiece (wp : Vec F S1024x8192 .i8) (ws : Vec F S16x8192 .bf16) (a : Vec F S2048x8 .bf16) (b : Vec F S8x8192 .bf16)
    (k g : Fin 16) : View.Piece (Elt F) (M 2048 8192) .bf16 :=
  ⟨Rect.unit (s := M 2048 8192) ![128 * g.val, 512 * k.val] ![128, 512] (Fin.forall_fin_two.mpr
    ⟨by show 128 * g.val + 128 ≤ 2048; omega, by show 512 * k.val + 512 ≤ 8192; omega⟩), vBlk wp ws a b k g⟩

theorem t1_piece {wp : Vec F S1024x8192 .i8} {ws : Vec F S16x8192 .bf16} {a : Vec F S2048x8 .bf16} {b : Vec F S8x8192 .bf16}
    (k : Fin k0_t1_loop.trips) (g : Fin 16) {oS o4 o5 o6 o7 : Fin 2 → ℕ} (hS : oS = ![128 * g.val, 512 * k.val])
    (h4 : o4 = ![64 * g.val, 512 * k.val]) (h5 : o5 = ![g.val, 512 * k.val]) (h6 : o6 = ![128 * g.val, 0]) (h7 : o7 = ![0, 512 * k.val])
    (iS : ∀ a : Fin 2, oS a + (![128, 512] : Fin 2 → ℕ) a ≤ (M 2048 8192).size a)
    (i4 : ∀ a : Fin 2, o4 a + (![64, 512] : Fin 2 → ℕ) a ≤ (M 1024 8192).size a)
    (i5 : ∀ a : Fin 2, o5 a + (![1, 512] : Fin 2 → ℕ) a ≤ (M 16 8192).size a)
    (i6 : ∀ a : Fin 2, o6 a + (![128, 8] : Fin 2 → ℕ) a ≤ (M 2048 8).size a)
    (i7 : ∀ a : Fin 2, o7 a + (![8, 512] : Fin 2 → ℕ) a ≤ (M 8 8192).size a)
    (w : Vec F S128x512 .bf16)
    (hw : w = k0_pay10 (View.ld (S := M 1024 8192) wp (Rect.unit (s := M 1024 8192) o4 ![64, 512] i4))
      (View.ld (S := M 16 8192) ws (Rect.unit (s := M 16 8192) o5 ![1, 512] i5))
      (View.ld (S := M 2048 8) a (Rect.unit (s := M 2048 8) o6 ![128, 8] i6))
      (View.ld (S := M 8 8192) b (Rect.unit (s := M 8 8192) o7 ![8, 512] i7))) :
    (⟨Rect.unit (s := M 2048 8192) oS ![128, 512] iS, w⟩ : View.Piece (Elt F) (M 2048 8192) .bf16)
      = vPiece wp ws a b ⟨k.val, lt_t1 k⟩ g :=
  piece_eq (s := M 2048 8192) iS _ hS _ _ (hw.trans (app4 k0_pay10 (ld_win _ _ h4 _ _) (ld_win _ _ h5 _ _) (ld_win _ _ h6 _ _)
    (ld_win _ _ h7 _ _)))

theorem cons_eq {β : Type} {p q : β} {L L' : List β} (h : p = q) (h' : L = L') : p :: L = q :: L' := by
  subst h; subst h'; rfl

/-- One trip of the loop that builds the adapted weight stores the sixteen blocks of one chunk of columns. -/
theorem trip1_eq (k0_h1 : k0_cond1 i = 1#1) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips) (m : Fin 16) (hm : m.val = k.val) :
    tripL_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 k = [vPiece (arg4.view.read (Elt F) X_arg4) (arg5.view.read (Elt F) X_arg5) (arg6.view.read (Elt F) X_arg6) (arg7.view.read (Elt F) X_arg7) m 15, vPiece (arg4.view.read (Elt F) X_arg4) (arg5.view.read (Elt F) X_arg5) (arg6.view.read (Elt F) X_arg6) (arg7.view.read (Elt F) X_arg7) m 14, vPiece (arg4.view.read (Elt F) X_arg4) (arg5.view.read (Elt F) X_arg5) (arg6.view.read (Elt F) X_arg6) (arg7.view.read (Elt F) X_arg7) m 13, vPiece (arg4.view.read (Elt F) X_arg4) (arg5.view.read (Elt F) X_arg5) (arg6.view.read (Elt F) X_arg6) (arg7.view.read (Elt F) X_arg7) m 12, vPiece (arg4.view.read (Elt F) X_arg4) (arg5.view.read (Elt F) X_arg5) (arg6.view.read (Elt F) X_arg6) (arg7.view.read (Elt F) X_arg7) m 11, vPiece (arg4.view.read (Elt F) X_arg4) (arg5.view.read (Elt F) X_arg5) (arg6.view.read (Elt F) X_arg6) (arg7.view.read (Elt F) X_arg7) m 10, vPiece (arg4.view.read (Elt F) X_arg4) (arg5.view.read (Elt F) X_arg5) (arg6.view.read (Elt F) X_arg6) (arg7.view.read (Elt F) X_arg7) m 9, vPiece (arg4.view.read (Elt F) X_arg4) (arg5.view.read (Elt F) X_arg5) (arg6.view.read (Elt F) X_arg6) (arg7.view.read (Elt F) X_arg7) m 8, vPiece (arg4.view.read (Elt F) X_arg4) (arg5.view.read (Elt F) X_arg5) (arg6.view.read (Elt F) X_arg6) (arg7.view.read (Elt F) X_arg7) m 7, vPiece (arg4.view.read (Elt F) X_arg4) (arg5.view.read (Elt F) X_arg5) (arg6.view.read (Elt F) X_arg6) (arg7.view.read (Elt F) X_arg7) m 6, vPiece (arg4.view.read (Elt F) X_arg4) (arg5.view.read (Elt F) X_arg5) (arg6.view.read (Elt F) X_arg6) (arg7.view.read (Elt F) X_arg7) m 5, vPiece (arg4.view.read (Elt F) X_arg4) (arg5.view.read (Elt F) X_arg5) (arg6.view.read (Elt F) X_arg6) (arg7.view.read (Elt F) X_arg7) m 4, vPiece (arg4.view.read (Elt F) X_arg4) (arg5.view.read (Elt F) X_arg5) (arg6.view.read (Elt F) X_arg6) (arg7.view.read (Elt F) X_arg7) m 3, vPiece (arg4.view.read (Elt F) X_arg4) (arg5.view.read (Elt F) X_arg5) (arg6.view.read (Elt F) X_arg6) (arg7.view.read (Elt F) X_arg7) m 2, vPiece (arg4.view.read (Elt F) X_arg4) (arg5.view.read (Elt F) X_arg5) (arg6.view.read (Elt F) X_arg6) (arg7.view.read (Elt F) X_arg7) m 1, vPiece (arg4.view.read (Elt F) X_arg4) (arg5.view.read (Elt F) X_arg5) (arg6.view.read (Elt F) X_arg6) (arg7.view.read (Elt F) X_arg7) m 0] := by
  obtain rfl : m = ⟨k.val, lt_t1 k⟩ := Fin.ext hm
  unfold tripL_k0_t1 trip_k0_t1
  refine cons_eq (t1_piece k 15 (k0_off49_eq k) (k0_off47_eq k) (k0_off48_eq k) rfl (k0_off3_eq k) _ (k0_off47_inb i k k0_h1) (k0_off48_inb i k k0_h1) inb_S2048x8_S128x8_1920_0 (k0_off3_inb i k k0_h1) _ rfl) ?_
  refine cons_eq (t1_piece k 14 (k0_off46_eq k) (k0_off44_eq k) (k0_off45_eq k) rfl (k0_off3_eq k) _ (k0_off44_inb i k k0_h1) (k0_off45_inb i k k0_h1) inb_S2048x8_S128x8_1792_0 (k0_off3_inb i k k0_h1) _ rfl) ?_
  refine cons_eq (t1_piece k 13 (k0_off43_eq k) (k0_off41_eq k) (k0_off42_eq k) rfl (k0_off3_eq k) _ (k0_off41_inb i k k0_h1) (k0_off42_inb i k k0_h1) inb_S2048x8_S128x8_1664_0 (k0_off3_inb i k k0_h1) _ rfl) ?_
  refine cons_eq (t1_piece k 12 (k0_off40_eq k) (k0_off38_eq k) (k0_off39_eq k) rfl (k0_off3_eq k) _ (k0_off38_inb i k k0_h1) (k0_off39_inb i k k0_h1) inb_S2048x8_S128x8_1536_0 (k0_off3_inb i k k0_h1) _ rfl) ?_
  refine cons_eq (t1_piece k 11 (k0_off37_eq k) (k0_off35_eq k) (k0_off36_eq k) rfl (k0_off3_eq k) _ (k0_off35_inb i k k0_h1) (k0_off36_inb i k k0_h1) inb_S2048x8_S128x8_1408_0 (k0_off3_inb i k k0_h1) _ rfl) ?_
  refine cons_eq (t1_piece k 10 (k0_off34_eq k) (k0_off32_eq k) (k0_off33_eq k) rfl (k0_off3_eq k) _ (k0_off32_inb i k k0_h1) (k0_off33_inb i k k0_h1) inb_S2048x8_S128x8_1280_0 (k0_off3_inb i k k0_h1) _ rfl) ?_
  refine cons_eq (t1_piece k 9 (k0_off31_eq k) (k0_off29_eq k) (k0_off30_eq k) rfl (k0_off3_eq k) _ (k0_off29_inb i k k0_h1) (k0_off30_inb i k k0_h1) inb_S2048x8_S128x8_1152_0 (k0_off3_inb i k k0_h1) _ rfl) ?_
  refine cons_eq (t1_piece k 8 (k0_off28_eq k) (k0_off26_eq k) (k0_off27_eq k) rfl (k0_off3_eq k) _ (k0_off26_inb i k k0_h1) (k0_off27_inb i k k0_h1) inb_S2048x8_S128x8_1024_0 (k0_off3_inb i k k0_h1) _ rfl) ?_
  refine cons_eq (t1_piece k 7 (k0_off25_eq k) (k0_off23_eq k) (k0_off24_eq k) rfl (k0_off3_eq k) _ (k0_off23_inb i k k0_h1) (k0_off24_inb i k k0_h1) inb_S2048x8_S128x8_896_0 (k0_off3_inb i k k0_h1) _ rfl) ?_
  refine cons_eq (t1_piece k 6 (k0_off22_eq k) (k0_off20_eq k) (k0_off21_eq k) rfl (k0_off3_eq k) _ (k0_off20_inb i k k0_h1) (k0_off21_inb i k k0_h1) inb_S2048x8_S128x8_768_0 (k0_off3_inb i k k0_h1) _ rfl) ?_
  refine cons_eq (t1_piece k 5 (k0_off19_eq k) (k0_off17_eq k) (k0_off18_eq k) rfl (k0_off3_eq k) _ (k0_off17_inb i k k0_h1) (k0_off18_inb i k k0_h1) inb_S2048x8_S128x8_640_0 (k0_off3_inb i k k0_h1) _ rfl) ?_
  refine cons_eq (t1_piece k 4 (k0_off16_eq k) (k0_off14_eq k) (k0_off15_eq k) rfl (k0_off3_eq k) _ (k0_off14_inb i k k0_h1) (k0_off15_inb i k k0_h1) inb_S2048x8_S128x8_512_0 (k0_off3_inb i k k0_h1) _ rfl) ?_
  refine cons_eq (t1_piece k 3 (k0_off13_eq k) (k0_off11_eq k) (k0_off12_eq k) rfl (k0_off3_eq k) _ (k0_off11_inb i k k0_h1) (k0_off12_inb i k k0_h1) inb_S2048x8_S128x8_384_0 (k0_off3_inb i k k0_h1) _ rfl) ?_
  refine cons_eq (t1_piece k 2 (k0_off10_eq k) (k0_off8_eq k) (k0_off9_eq k) rfl (k0_off3_eq k) _ (k0_off8_inb i k k0_h1) (k0_off9_inb i k k0_h1) inb_S2048x8_S128x8_256_0 (k0_off3_inb i k k0_h1) _ rfl) ?_
  refine cons_eq (t1_piece k 1 (k0_off7_eq k) (k0_off5_eq k) (k0_off6_eq k) rfl (k0_off3_eq k) _ (k0_off5_inb i k k0_h1) (k0_off6_inb i k k0_h1) inb_S2048x8_S128x8_128_0 (k0_off3_inb i k k0_h1) _ rfl) ?_
  refine cons_eq (t1_piece k 0 (k0_off4_eq k) (k0_off1_eq k) (k0_off2_eq k) rfl (k0_off3_eq k) _ (k0_off1_inb i k k0_h1) (k0_off2_inb i k k0_h1) inb_S2048x8_S128x8_0_0 (k0_off3_inb i k k0_h1) _ rfl) ?_
  rfl

/-- After `k` trips. -/
theorem loop1 (k0_h1 : k0_cond1 i = 1#1) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg14 : BufTy.Contents (Elt F) arg14.view.ty) : ∀ k : ℕ, k ≤ 16 → ∀ y : (M 2048 8192).Idx,
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 k)) y
      = if (y 1).val < 512 * k then vS (arg4.view.read (Elt F) X_arg4) (arg5.view.read (Elt F) X_arg5) (arg6.view.read (Elt F) X_arg6) (arg7.view.read (Elt F) X_arg7) y else arg14.view.read (Elt F) G_arg14 y
  | 0, _, y => by rw [if_neg (by omega)]; rfl
  | k + 1, hk, y => by
    have hk' : k < k0_t1_loop.trips := by rw [trips_t1]; omega
    have hk16 : k < 16 := by omega
    rw [pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 ⟨k, hk'⟩, trip1_eq 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h1 X_arg4 X_arg5 X_arg6 X_arg7 ⟨k, hk'⟩ ⟨k, hk16⟩ rfl]
    refine read_blocks _ _ hr16 h16 _ ⟨k, hk16⟩ _ _ ?_ ?_ _ (fun y => loop1 k0_h1 X_arg4 X_arg5 X_arg6 X_arg7 G_arg14 k (by omega) y) y
    · intro p hp
      simp only [List.mem_cons, List.not_mem_nil, or_false] at hp
      rcases hp with rfl | rfl | rfl | rfl | rfl | rfl | rfl | rfl | rfl | rfl | rfl | rfl | rfl | rfl | rfl | rfl
      all_goals exact ⟨_, _, rfl⟩
    · intro g
      refine ⟨vPiece (arg4.view.read (Elt F) X_arg4) (arg5.view.read (Elt F) X_arg5) (arg6.view.read (Elt F) X_arg6) (arg7.view.read (Elt F) X_arg7) ⟨k, hk16⟩ g, ?_, _, _, rfl⟩
      have : ∀ g : Fin 16, g = 15 ∨ g = 14 ∨ g = 13 ∨ g = 12 ∨ g = 11 ∨ g = 10 ∨ g = 9 ∨ g = 8 ∨ g = 7 ∨ g = 6 ∨ g = 5 ∨ g = 4 ∨ g = 3 ∨ g = 2 ∨ g = 1 ∨ g = 0 := by decide
      rcases this g with rfl | rfl | rfl | rfl | rfl | rfl | rfl | rfl | rfl | rfl | rfl | rfl | rfl | rfl | rfl | rfl <;> simp only [List.mem_cons, true_or, or_true]

theorem loop1_all (k0_h1 : k0_cond1 i = 1#1) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (G_arg14 : BufTy.Contents (Elt F) arg14.view.ty) :
    arg14.view.read (Elt F) (arg14.view.writes (Elt F) G_arg14 (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg4 X_arg5 X_arg6 X_arg7 k0_t1_loop.trips))
      = vS (arg4.view.read (Elt F) X_arg4) (arg5.view.read (Elt F) X_arg5) (arg6.view.read (Elt F) X_arg6) (arg7.view.read (Elt F) X_arg7) := by
  funext y
  rw [trips_t1, loop1 𝒱 c bd i (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (harg16 := harg16) (harg17 := harg17) (harg18 := harg18) (harg19 := harg19) (harg20 := harg20) (harg21 := harg21) k0_h1 X_arg4 X_arg5 X_arg6 X_arg7 G_arg14 16 le_rfl y, if_pos (by have : (y 1).val < 8192 := (y 1).isLt; omega)]

end Cert.Kernel.Gen
-- ==== Proof.Low.Body.lean ====
/-
  The kernel's body at one grid point, run once per kind of point: the first point builds the adapted weight and clears the
  accumulators, every point adds its rows to them and stores its block of the input's cotangent, and the last point stores the
  remaining results. The contents are the functions of Spec.lean.
-/
module

public import proofs.«01_k».proof.Proof.Gen.Kernel.Frame
public import proofs.«01_k».proof.Proof.Low.Loop

@[expose] public section

set_option maxRecDepth 16384
noncomputable section

namespace Cert.Kernel.Gen

open Idealize.ShloMosaic Idealize.ShloMosaic.TcCoe Idealize.ShloMosaic.Tactic Cert.Tiles
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The first adapter matrix's accumulator after one more point. -/
def s19S (x1 : Vec F S256x8192 .bf16) (x2 : Vec F S256x2048 .fp8e4m3) (x3 : Vec F S256x1 .f32) (x7 : Vec F S8x8192 .bf16)
    (g : Vec F S1x8192 .f32) (s : Vec F S2048x8 .f32) : Vec F S2048x8 .f32 :=
  k0_pay1 (k0_pay50 x3 (k0_pay46 x2)) s (k0_pay51 (hRec x1 g x7 k0_pay48 16))

/-- The second adapter matrix's accumulator after one more point. -/
def s20S (x1 : Vec F S256x8192 .bf16) (x2 : Vec F S256x2048 .fp8e4m3) (x3 : Vec F S256x1 .f32) (x6 : Vec F S2048x8 .bf16)
    (g : Vec F S1x8192 .f32) (s : Vec F S8x8192 .f32) : Vec F S8x8192 .f32 :=
  xtdS x3 (k0_pay46 x2) x6 x1 g s

/-- The magnitudes' accumulator after one more point. -/
def s21S (x1 : Vec F S256x8192 .bf16) (x2 : Vec F S256x2048 .fp8e4m3) (x3 : Vec F S256x1 .f32) (v : Vec F S2048x8192 .bf16)
    (s : Vec F S1x8192 .f32) : Vec F S1x8192 .f32 :=
  dmaS x3 (k0_pay46 x2) x1 v s

set_option maxHeartbeats 4000000 in
/-- A point that is neither the first nor the last. -/
theorem sound_mid (c : Dev nD) (E : Set ℕ) (i : grid0.Coords) (h1 : ¬ k0_cond1 i = 1#1) (h2 : ¬ k0_cond2 i = 1#1) (arg1 : Memref sig .tc .vmem S256x8192 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S1024x8192 .i8) (harg4 : arg4.IsWhole) (arg5 : Memref sig .tc .vmem S16x8192 .bf16) (harg5 : arg5.IsWhole) (arg6 : Memref sig .tc .vmem S2048x8 .bf16) (harg6 : arg6.IsWhole) (arg7 : Memref sig .tc .vmem S8x8192 .bf16) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x2048 .bf16) (harg10 : arg10.IsWhole) (arg11 : Memref sig .tc .vmem S2048x8 .bf16) (harg11 : arg11.IsWhole) (arg12 : Memref sig .tc .vmem S8x8192 .bf16) (harg12 : arg12.IsWhole) (arg13 : Memref sig .tc .vmem S1x8192 .f32) (harg13 : arg13.IsWhole) (arg14 : Memref sig .tc .vmem S2048x8192 .bf16) (harg14 : arg14.IsWhole) (arg15 : Memref sig .tc .vmem S256x8192 .bf16) (harg15 : arg15.IsWhole) (arg16 : Memref sig .tc .vmem S256x2048 .bf16) (harg16 : arg16.IsWhole) (arg17 : Memref sig .tc .vmem S256x8 .f32) (harg17 : arg17.IsWhole) (arg18 : Memref sig .tc .vmem S1x8192 .f32) (harg18 : arg18.IsWhole) (arg19 : Memref sig .tc .vmem S2048x8 .f32) (harg19 : arg19.IsWhole) (arg20 : Memref sig .tc .vmem S8x8192 .f32) (harg20 : arg20.IsWhole) (arg21 : Memref sig .tc .vmem S1x8192 .f32) (harg21 : arg21.IsWhole)
    (x1 : Vec F S256x8192 .bf16) (x2 : Vec F S256x2048 .fp8e4m3) (x3 : Vec F S256x1 .f32) (x4 : Vec F S1024x8192 .i8) (x5 : Vec F S16x8192 .bf16) (x6 : Vec F S2048x8 .bf16) (x7 : Vec F S8x8192 .bf16) (x8 : Vec F S1x8192 .f32) (x9 : Vec F S1x8192 .f32)
    (y11 : Vec F S2048x8 .bf16) (y12 : Vec F S8x8192 .bf16) (y13 : Vec F S1x8192 .f32) (v : Vec F S2048x8192 .bf16) (g : Vec F S1x8192 .f32) (s19 : Vec F S2048x8 .f32) (s20 : Vec F S8x8192 .f32) (s21 : Vec F S1x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare y11 ∗ owns (c : Thread nD τ) arg12 fullShare y12 ∗ owns (c : Thread nD τ) arg13 fullShare y13 ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ owns (c : Thread nD τ) arg19 fullShare s19 ∗ owns (c : Thread nD τ) arg20 fullShare s20 ∗ owns (c : Thread nD τ) arg21 fullShare s21
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dxS (dypS x1 g) v) ∗ owns (c : Thread nD τ) arg11 fullShare y11 ∗ owns (c : Thread nD τ) arg12 fullShare y12 ∗ owns (c : Thread nD τ) arg13 fullShare y13 ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ owns (c : Thread nD τ) arg19 fullShare (s19S x1 x2 x3 x7 g s19) ∗ owns (c : Thread nD τ) arg20 fullShare (s20S x1 x2 x3 x6 g s20) ∗ owns (c : Thread nD τ) arg21 fullShare (s21S x1 x2 x3 v s21)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_dora_bwd_eq_skeleton]; unfold cc0_dora_bwd_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf11 hf12 hf13 hf14 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (loop3_all _ _ _ _ _ _ _ ).trans (congrArg (fun z => dxS z _) (loop2_all _ _ _ _ _ _ _ _ _ _ _ _ _ _ _ _ ).1)
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists f18; isplitr; · ipureintro; rfl
    iexact H18
  isplitl [H19]
  · iexists _; isplitr
    swap; · iexact H19
    ipureintro
    exact (read_whole _ _ _ _ _).trans (app3 k0_pay1 (app2 k0_pay50 (View.ld_unit_zero hz _ _) ((View.ld_unit_zero hz _ _).trans ((read_whole _ _ _ _ _).trans (congrArg k0_pay46 (View.ld_unit_zero hz _ _))))) (View.ld_unit_zero hz _ _) (congrArg k0_pay51 ((View.ld_unit_zero hz _ _).trans ((congrArg (View.read _ _) (View.writes_append _ _ _ _)).trans ((loop2_all _ _ _ _ _ _ _ _ _ _ _ _ _ _ _ _ ).2.1.trans ((congrArg (fun z => hRec _ _ _ z 16) (read_whole _ _ _ _ _))))))))
  isplitl [H20]
  · iexists _; isplitr
    swap; · iexact H20
    ipureintro
    exact (loop2_all _ _ _ _ _ _ _ _ _ _ _ _ _ _ _ _ ).2.2.1.trans (app3 (fun a b c => xtdS a b c _ _ _) (View.ld_unit_zero hz _ _) ((View.ld_unit_zero hz _ _).trans ((read_whole _ _ _ _ _).trans (congrArg k0_pay46 (View.ld_unit_zero hz _ _)))) (View.ld_unit_zero hz _ _))
  iexists _; isplitr
  swap; · iexact H21
  ipureintro
  exact (loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _))))

set_option maxHeartbeats 4000000 in
/-- The first point: whatever the scratch held, it leaves the adapted weight, the column factor and the first sums. -/
theorem sound_first (c : Dev nD) (E : Set ℕ) (i : grid0.Coords) (h1 : k0_cond1 i = 1#1) (h2 : ¬ k0_cond2 i = 1#1) (arg1 : Memref sig .tc .vmem S256x8192 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S1024x8192 .i8) (harg4 : arg4.IsWhole) (arg5 : Memref sig .tc .vmem S16x8192 .bf16) (harg5 : arg5.IsWhole) (arg6 : Memref sig .tc .vmem S2048x8 .bf16) (harg6 : arg6.IsWhole) (arg7 : Memref sig .tc .vmem S8x8192 .bf16) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x2048 .bf16) (harg10 : arg10.IsWhole) (arg11 : Memref sig .tc .vmem S2048x8 .bf16) (harg11 : arg11.IsWhole) (arg12 : Memref sig .tc .vmem S8x8192 .bf16) (harg12 : arg12.IsWhole) (arg13 : Memref sig .tc .vmem S1x8192 .f32) (harg13 : arg13.IsWhole) (arg14 : Memref sig .tc .vmem S2048x8192 .bf16) (harg14 : arg14.IsWhole) (arg15 : Memref sig .tc .vmem S256x8192 .bf16) (harg15 : arg15.IsWhole) (arg16 : Memref sig .tc .vmem S256x2048 .bf16) (harg16 : arg16.IsWhole) (arg17 : Memref sig .tc .vmem S256x8 .f32) (harg17 : arg17.IsWhole) (arg18 : Memref sig .tc .vmem S1x8192 .f32) (harg18 : arg18.IsWhole) (arg19 : Memref sig .tc .vmem S2048x8 .f32) (harg19 : arg19.IsWhole) (arg20 : Memref sig .tc .vmem S8x8192 .f32) (harg20 : arg20.IsWhole) (arg21 : Memref sig .tc .vmem S1x8192 .f32) (harg21 : arg21.IsWhole)
    (x1 : Vec F S256x8192 .bf16) (x2 : Vec F S256x2048 .fp8e4m3) (x3 : Vec F S256x1 .f32) (x4 : Vec F S1024x8192 .i8) (x5 : Vec F S16x8192 .bf16) (x6 : Vec F S2048x8 .bf16) (x7 : Vec F S8x8192 .bf16) (x8 : Vec F S1x8192 .f32) (x9 : Vec F S1x8192 .f32)
    (y11 : Vec F S2048x8 .bf16) (y12 : Vec F S8x8192 .bf16) (y13 : Vec F S1x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg11 fullShare y11 ∗ owns (c : Thread nD τ) arg12 fullShare y12 ∗ owns (c : Thread nD τ) arg13 fullShare y13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dxS (dypS x1 (k0_pay41 x8 x9)) (vS x4 x5 x6 x7)) ∗ owns (c : Thread nD τ) arg11 fullShare y11 ∗ owns (c : Thread nD τ) arg12 fullShare y12 ∗ owns (c : Thread nD τ) arg13 fullShare y13 ∗ owns (c : Thread nD τ) arg14 fullShare (vS x4 x5 x6 x7) ∗ (∃ d, owns (c : Thread nD τ) arg15 fullShare d) ∗ (∃ d, owns (c : Thread nD τ) arg16 fullShare d) ∗ (∃ d, owns (c : Thread nD τ) arg17 fullShare d) ∗ owns (c : Thread nD τ) arg18 fullShare (k0_pay41 x8 x9) ∗ owns (c : Thread nD τ) arg19 fullShare (s19S x1 x2 x3 x7 (k0_pay41 x8 x9) k0_pay43) ∗ owns (c : Thread nD τ) arg20 fullShare (s20S x1 x2 x3 x6 (k0_pay41 x8 x9) k0_pay44) ∗ owns (c : Thread nD τ) arg21 fullShare (s21S x1 x2 x3 (vS x4 x5 x6 x7) k0_pay42)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_dora_bwd_eq_skeleton]; unfold cc0_dora_bwd_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
  subst hf1 hf2 hf3 hf4 hf5 hf6 hf7 hf8 hf9 hf11 hf12 hf13
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (loop3_all _ _ _ _ _ _ _ ).trans (app2 dxS ((loop2_all _ _ _ _ _ _ _ _ _ _ _ _ _ _ _ _ ).1.trans (congrArg (dypS _) ((read_whole _ _ _ _ _).trans (app2 k0_pay41 (View.ld_unit_zero hz _ _) (View.ld_unit_zero hz _ _))))) (loop1_all _ _ _ _ _ _ _ _ _ _ ))
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact (loop1_all _ _ _ _ _ _ _ _ _ _ )
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; isplitr
    swap; · iexact H18
    ipureintro
    exact ((read_whole _ _ _ _ _).trans (app2 k0_pay41 (View.ld_unit_zero hz _ _) (View.ld_unit_zero hz _ _)))
  isplitl [H19]
  · iexists _; isplitr
    swap; · iexact H19
    ipureintro
    exact (read_whole _ _ _ _ _).trans (app3 k0_pay1 (app2 k0_pay50 (View.ld_unit_zero hz _ _) ((View.ld_unit_zero hz _ _).trans ((read_whole _ _ _ _ _).trans (congrArg k0_pay46 (View.ld_unit_zero hz _ _))))) ((View.ld_unit_zero hz _ _).trans (read_whole _ _ _ _ _))
      (congrArg k0_pay51 ((View.ld_unit_zero hz _ _).trans ((congrArg (View.read _ _) (View.writes_append _ _ _ _)).trans ((loop2_all _ _ _ _ _ _ _ _ _ _ _ _ _ _ _ _ ).2.1.trans (app2 (fun g h => hRec _ g _ h 16) ((read_whole _ _ _ _ _).trans (app2 k0_pay41 (View.ld_unit_zero hz _ _) (View.ld_unit_zero hz _ _))) (read_whole _ _ _ _ _)))))))
  isplitl [H20]
  · iexists _; isplitr
    swap; · iexact H20
    ipureintro
    exact (congrArg (View.read _ _) (View.writes_append _ _ _ _)).trans ((loop2_all _ _ _ _ _ _ _ _ _ _ _ _ _ _ _ _ ).2.2.1.trans
      (app5 (fun a b c g o => xtdS a b c _ g o) (View.ld_unit_zero hz _ _) ((View.ld_unit_zero hz _ _).trans ((read_whole _ _ _ _ _).trans (congrArg k0_pay46 (View.ld_unit_zero hz _ _)))) (View.ld_unit_zero hz _ _) ((read_whole _ _ _ _ _).trans (app2 k0_pay41 (View.ld_unit_zero hz _ _) (View.ld_unit_zero hz _ _))) (read_whole _ _ _ _ _)))
  iexists _; isplitr
  swap; · iexact H21
  ipureintro
  exact (congrArg (View.read _ _) (View.writes_append _ _ _ _)).trans ((loop2_all _ _ _ _ _ _ _ _ _ _ _ _ _ _ _ _ ).2.2.2.trans
    (app4 (fun a b v o => dmaS a b _ v o) (View.ld_unit_zero hz _ _) ((read_whole _ _ _ _ _).trans (congrArg k0_pay46 (View.ld_unit_zero hz _ _))) (loop1_all _ _ _ _ _ _ _ _ _ _ ) (read_whole _ _ _ _ _)))

set_option maxHeartbeats 4000000 in
/-- The last point: it also stores the cotangents of the adapter matrices and of the magnitudes. -/
theorem sound_last (c : Dev nD) (E : Set ℕ) (i : grid0.Coords) (h1 : ¬ k0_cond1 i = 1#1) (h2 : k0_cond2 i = 1#1) (arg1 : Memref sig .tc .vmem S256x8192 .bf16) (harg1 : arg1.IsWhole) (arg2 : Memref sig .tc .vmem S256x2048 .fp8e4m3) (harg2 : arg2.IsWhole) (arg3 : Memref sig .tc .vmem S256x1 .f32) (harg3 : arg3.IsWhole) (arg4 : Memref sig .tc .vmem S1024x8192 .i8) (harg4 : arg4.IsWhole) (arg5 : Memref sig .tc .vmem S16x8192 .bf16) (harg5 : arg5.IsWhole) (arg6 : Memref sig .tc .vmem S2048x8 .bf16) (harg6 : arg6.IsWhole) (arg7 : Memref sig .tc .vmem S8x8192 .bf16) (harg7 : arg7.IsWhole) (arg8 : Memref sig .tc .vmem S1x8192 .f32) (harg8 : arg8.IsWhole) (arg9 : Memref sig .tc .vmem S1x8192 .f32) (harg9 : arg9.IsWhole) (arg10 : Memref sig .tc .vmem S256x2048 .bf16) (harg10 : arg10.IsWhole) (arg11 : Memref sig .tc .vmem S2048x8 .bf16) (harg11 : arg11.IsWhole) (arg12 : Memref sig .tc .vmem S8x8192 .bf16) (harg12 : arg12.IsWhole) (arg13 : Memref sig .tc .vmem S1x8192 .f32) (harg13 : arg13.IsWhole) (arg14 : Memref sig .tc .vmem S2048x8192 .bf16) (harg14 : arg14.IsWhole) (arg15 : Memref sig .tc .vmem S256x8192 .bf16) (harg15 : arg15.IsWhole) (arg16 : Memref sig .tc .vmem S256x2048 .bf16) (harg16 : arg16.IsWhole) (arg17 : Memref sig .tc .vmem S256x8 .f32) (harg17 : arg17.IsWhole) (arg18 : Memref sig .tc .vmem S1x8192 .f32) (harg18 : arg18.IsWhole) (arg19 : Memref sig .tc .vmem S2048x8 .f32) (harg19 : arg19.IsWhole) (arg20 : Memref sig .tc .vmem S8x8192 .f32) (harg20 : arg20.IsWhole) (arg21 : Memref sig .tc .vmem S1x8192 .f32) (harg21 : arg21.IsWhole)
    (x1 : Vec F S256x8192 .bf16) (x2 : Vec F S256x2048 .fp8e4m3) (x3 : Vec F S256x1 .f32) (x4 : Vec F S1024x8192 .i8) (x5 : Vec F S16x8192 .bf16) (x6 : Vec F S2048x8 .bf16) (x7 : Vec F S8x8192 .bf16) (x8 : Vec F S1x8192 .f32) (x9 : Vec F S1x8192 .f32)
    (v : Vec F S2048x8192 .bf16) (g : Vec F S1x8192 .f32) (s19 : Vec F S2048x8 .f32) (s20 : Vec F S8x8192 .f32) (s21 : Vec F S1x8192 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ owns (c : Thread nD τ) arg18 fullShare g ∗ owns (c : Thread nD τ) arg19 fullShare s19 ∗ owns (c : Thread nD τ) arg20 fullShare s20 ∗ owns (c : Thread nD τ) arg21 fullShare s21
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (dxS (dypS x1 g) v) ∗ owns (c : Thread nD τ) arg11 fullShare (k0_pay9 (xthRec v (k0_pay5 x9 (s21S x1 x2 x3 v s21) x8) x7 (s19S x1 x2 x3 x7 g s19) 16)) ∗ owns (c : Thread nD τ) arg12 fullShare (dbS v (k0_pay5 x9 (s21S x1 x2 x3 v s21) x8) x6 (s20S x1 x2 x3 x6 g s20)) ∗ owns (c : Thread nD τ) arg13 fullShare (k0_pay4 x9 (s21S x1 x2 x3 v s21)) ∗ owns (c : Thread nD τ) arg14 fullShare v ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_dora_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_dora_bwd_eq_skeleton]; unfold cc0_dora_bwd_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%d16, %f16, -, H16⟩, ⟨%d17, %f17, -, H17⟩, ⟨%f18, %hf18, H18⟩, ⟨%f19, %hf19, H19⟩, ⟨%f20, %hf20, H20⟩, ⟨%f21, %hf21, H21⟩, Hk⟩
  subst hf1 hf2 hf3 hf4 hf5 hf6 hf7 hf8 hf9 hf14 hf18 hf19 hf20 hf21
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact (loop3_all _ _ _ _ _ _ _ ).trans (congrArg (fun z => dxS z _) (loop2_all _ _ _ _ _ _ _ _ _ _ _ _ _ _ _ _ ).1)
  isplitl [H11]
  · iexists _; isplitr
    swap; · iexact H11
    ipureintro
    exact (read_whole _ _ _ _ _).trans (congrArg k0_pay9 ((View.ld_unit_zero hz _ _).trans ((congrArg (View.read _ _) (View.writes_append _ _ _ _)).trans ((loop4_all _ _ _ _ _ _ _ _ _ _ _ _ ).2.trans (app2 (fun g s => xthRec _ g _ s 16)
      ((read_whole _ _ _ _ _).trans (app3 k0_pay5 (View.ld_unit_zero hz _ _) ((View.ld_unit_zero hz _ _).trans ((loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _)))))) (View.ld_unit_zero hz _ _)))
      ((read_whole _ _ _ _ _).trans (app3 k0_pay1 (app2 k0_pay50 (View.ld_unit_zero hz _ _) ((View.ld_unit_zero hz _ _).trans ((read_whole _ _ _ _ _).trans (congrArg k0_pay46 (View.ld_unit_zero hz _ _))))) (View.ld_unit_zero hz _ _) (congrArg k0_pay51 ((View.ld_unit_zero hz _ _).trans ((congrArg (View.read _ _) (View.writes_append _ _ _ _)).trans ((loop2_all _ _ _ _ _ _ _ _ _ _ _ _ _ _ _ _ ).2.1.trans ((congrArg (fun z => hRec _ _ _ z 16) (read_whole _ _ _ _ _))))))))))))))
  isplitl [H12]
  · iexists _; isplitr
    swap; · iexact H12
    ipureintro
    exact (loop4_all _ _ _ _ _ _ _ _ _ _ _ _ ).1.trans (app2 (fun g o => dbS _ g _ o)
      ((read_whole _ _ _ _ _).trans (app3 k0_pay5 (View.ld_unit_zero hz _ _) ((View.ld_unit_zero hz _ _).trans ((loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _)))))) (View.ld_unit_zero hz _ _)))
      ((loop2_all _ _ _ _ _ _ _ _ _ _ _ _ _ _ _ _ ).2.2.1.trans (app3 (fun a b c => xtdS a b c _ _ _) (View.ld_unit_zero hz _ _) ((View.ld_unit_zero hz _ _).trans ((read_whole _ _ _ _ _).trans (congrArg k0_pay46 (View.ld_unit_zero hz _ _)))) (View.ld_unit_zero hz _ _))))
  isplitl [H13]
  · iexists _; isplitr
    swap; · iexact H13
    ipureintro
    exact (read_whole _ _ _ _ _).trans (app2 k0_pay4 (View.ld_unit_zero hz _ _) ((View.ld_unit_zero hz _ _).trans ((loop2_all _ _ _ _ _ _ _ _ _ _ _ _ _ _ _ _ ).2.2.2.trans (app2 (fun a b => dmaS a b _ _ _) (View.ld_unit_zero hz _ _) ((read_whole _ _ _ _ _).trans (congrArg k0_pay46 (View.ld_unit_zero hz _ _)))))))
  isplitl [H14]
  · iexists f14; isplitr; · ipureintro; rfl
    iexact H14
  isplitl [H15]
  · iexists _; iexists _; isplitr
    swap; · iexact H15
    ipureintro; rfl
  isplitl [H16]
  · iexists _; iexists _; isplitr
    swap; · iexact H16
    ipureintro; rfl
  isplitl [H17]
  · iexists _; iexists _; isplitr
    swap; · iexact H17
    ipureintro; rfl
  isplitl [H18]
  · iexists _; iexists _; isplitr
    swap; · iexact H18
    ipureintro; rfl
  isplitl [H19]
  · iexists _; iexists _; isplitr
    swap; · iexact H19
    ipureintro; rfl
  isplitl [H20]
  · iexists _; iexists _; isplitr
    swap; · iexact H20
    ipureintro; rfl
  iexists _; iexists _; isplitr
  swap; · iexact H21
  ipureintro; rfl

end Cert.Kernel.Gen
-- ==== Proof.Low.Run.lean ====
/-
  The run of the whole program: what the scratch buffers hold between two grid points, the pipeline's proof data, the body's
  obligation at every point, and the launch. It says that every run ends, leaves the arguments as they were and leaves in each
  window's array what the proof data says.
-/
module

public import proofs.«01_k».proof.Proof.Gen.Kernel.Frame
public import proofs.«01_k».proof.Proof.Low.Body
public import Idealize.ShloMosaic.Adequacy

@[expose] public section

set_option maxRecDepth 16384
noncomputable section

namespace Cert.Kernel.Gen

open Idealize.ShloMosaic Idealize.ShloMosaic.TcCoe Idealize.ShloMosaic.Tactic Cert.Tiles
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which point is the first and which the last -/

theorem cond1_iff : ∀ t : Fin cfg0.N, k0_cond1 (grid0.coords t) = 1#1 ↔ t.val = 0 :=
  (by decide : ∀ t : Fin grid0.N, k0_cond1 (grid0.coords t) = 1#1 ↔ t.val = 0)

theorem cond2_iff : ∀ t : Fin cfg0.N, k0_cond2 (grid0.coords t) = 1#1 ↔ t.val = 47 :=
  (by decide : ∀ t : Fin grid0.N, k0_cond2 (grid0.coords t) = 1#1 ↔ t.val = 47)

theorem N_eq : cfg0.N = 48 := N_0

theorem lt_N (t : Fin cfg0.N) : t.val < 48 := lt_of_lt_of_eq t.isLt N_eq

/-- The first point. -/
def t0 : Fin cfg0.N := ⟨0, by rw [N_eq]; decide⟩

/-! ## What is carried from one point to the next -/

/-- The adapted weight. -/
def vI (c : Dev nD) : Vec F S2048x8192 .bf16 := vS (iblk m c 3 t0) (iblk m c 4 t0) (iblk m c 5 t0) (iblk m c 6 t0)

/-- The magnitudes over the column norms. -/
def gI (c : Dev nD) : Vec F S1x8192 .f32 := k0_pay41 (iblk m c 7 t0) (iblk m c 8 t0)

/-- The first adapter matrix's accumulator after the first `n` points. -/
def S19 (c : Dev nD) : ℕ → Vec F S2048x8 .f32
  | 0 => k0_pay43
  | n + 1 => if h : n < cfg0.N then s19S (iblk m c 0 ⟨n, h⟩) (iblk m c 1 ⟨n, h⟩) (iblk m c 2 ⟨n, h⟩) (iblk m c 6 t0) (gI m c) (S19 c n) else S19 c n

/-- The second adapter matrix's. -/
def S20 (c : Dev nD) : ℕ → Vec F S8x8192 .f32
  | 0 => k0_pay44
  | n + 1 => if h : n < cfg0.N then s20S (iblk m c 0 ⟨n, h⟩) (iblk m c 1 ⟨n, h⟩) (iblk m c 2 ⟨n, h⟩) (iblk m c 5 t0) (gI m c) (S20 c n) else S20 c n

/-- The magnitudes'. -/
def S21 (c : Dev nD) : ℕ → Vec F S1x8192 .f32
  | 0 => k0_pay42
  | n + 1 => if h : n < cfg0.N then s21S (iblk m c 0 ⟨n, h⟩) (iblk m c 1 ⟨n, h⟩) (iblk m c 2 ⟨n, h⟩) (vI m c) (S21 c n) else S21 c n

theorem S19_succ (c : Dev nD) (t : Fin cfg0.N) :
    S19 m c (t.val + 1) = s19S (iblk m c 0 t) (iblk m c 1 t) (iblk m c 2 t) (iblk m c 6 t0) (gI m c) (S19 m c t.val) := by
  rw [S19, dif_pos t.isLt]

theorem S20_succ (c : Dev nD) (t : Fin cfg0.N) :
    S20 m c (t.val + 1) = s20S (iblk m c 0 t) (iblk m c 1 t) (iblk m c 2 t) (iblk m c 5 t0) (gI m c) (S20 m c t.val) := by
  rw [S20, dif_pos t.isLt]

theorem S21_succ (c : Dev nD) (t : Fin cfg0.N) :
    S21 m c (t.val + 1) = s21S (iblk m c 0 t) (iblk m c 1 t) (iblk m c 2 t) (vI m c) (S21 m c t.val) := by
  rw [S21, dif_pos t.isLt]

/-- The input's cotangent's block at a point. -/
def O9 (c : Dev nD) (t : Fin cfg0.N) : Vec F S256x2048 .bf16 := dxS (dypS (iblk m c 0 t) (gI m c)) (vI m c)
/-- The magnitudes' cotangent. -/
def O12 (c : Dev nD) : Vec F S1x8192 .f32 := k0_pay4 (iblk m c 8 t0) (S21 m c 48)
/-- The factor by which a column's part along its weight is taken off. -/
def gL (c : Dev nD) : Vec F S1x8192 .f32 := k0_pay5 (iblk m c 8 t0) (S21 m c 48) (iblk m c 7 t0)
/-- The first adapter matrix's cotangent. -/
def O10 (c : Dev nD) : Vec F S2048x8 .bf16 := k0_pay9 (xthRec (vI m c) (gL m c) (iblk m c 6 t0) (S19 m c 48) 16)
/-- The second adapter matrix's. -/
def O11 (c : Dev nD) : Vec F S8x8192 .bf16 := dbS (vI m c) (gL m c) (iblk m c 5 t0) (S20 m c 48)

/-- A scratch buffer at contents of no interest. -/
def anyAt (c : Dev nD) (b : Ref sig .tc) : sProp 𝕄 :=
  iprop(∃ f : Buf (Elt F) ((c : Thread nD τ).loc b), ((c : Thread nD τ).loc b) ↦{fullShare} f)

/-- The scratch after the first `n` points, at least one and not all. -/
def Φc (c : Dev nD) (n : ℕ) : sProp 𝕄 :=
  iprop(owns (c : Thread nD τ) (Memref.whole cc0_scratch0) fullShare (vI m c)
    ∗ anyAt c cc0_scratch1 ∗ anyAt c cc0_scratch2 ∗ anyAt c cc0_scratch3
    ∗ owns (c : Thread nD τ) (Memref.whole cc0_scratch4) fullShare (gI m c)
    ∗ owns (c : Thread nD τ) (Memref.whole cc0_scratch5) fullShare (S19 m c n)
    ∗ owns (c : Thread nD τ) (Memref.whole cc0_scratch6) fullShare (S20 m c n)
    ∗ owns (c : Thread nD τ) (Memref.whole cc0_scratch7) fullShare (S21 m c n)
    ∗ ∃ r, prngReg c r)

/-- The invariant: before the first point and after the last the scratch holds anything. -/
def Φn (c : Dev nD) (n : ℕ) : sProp 𝕄 :=
  if n = 0 ∨ n = 48 then ΦA spec0 c else Φc m c n

theorem Φn_zero (c : Dev nD) {n : ℕ} (h : n = 0) : Φn m c n = ΦA spec0 c := if_pos (.inl h)
theorem Φn_last (c : Dev nD) {n : ℕ} (h : n = 48) : Φn m c n = ΦA spec0 c := if_pos (.inr h)
theorem Φn_mid (c : Dev nD) {n : ℕ} (h : n ≠ 0) (h' : n ≠ 48) : Φn m c n = Φc m c n := if_neg (by omega)

/-! ## The pipeline's proof data -/

/-- What each window's buffer holds after the body, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => O9 m c t
    | ⟨10, _⟩ => O10 m c
    | ⟨11, _⟩ => O11 m c
    | ⟨12, _⟩ => O12 m c
  Φ t := Φn m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = O9 m c t := by dsimp only [dats]
theorem after0_10 (c : Dev nD) (t : Fin cfg0.N) : (dats m 0 c).after 10 t = O10 m c := by dsimp only [dats]
theorem after0_11 (c : Dev nD) (t : Fin cfg0.N) : (dats m 0 c).after 11 t = O11 m c := by dsimp only [dats]
theorem after0_12 (c : Dev nD) (t : Fin cfg0.N) : (dats m 0 c).after 12 t = O12 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! An input whose block never moves holds the same contents at every point. -/

theorem iblk_3 (c : Dev nD) (t : Fin cfg0.N) : iblk m c 3 t = iblk m c 3 t0 := rfl
theorem iblk_4 (c : Dev nD) (t : Fin cfg0.N) : iblk m c 4 t = iblk m c 4 t0 := rfl
theorem iblk_5 (c : Dev nD) (t : Fin cfg0.N) : iblk m c 5 t = iblk m c 5 t0 := rfl
theorem iblk_6 (c : Dev nD) (t : Fin cfg0.N) : iblk m c 6 t = iblk m c 6 t0 := rfl
theorem iblk_7 (c : Dev nD) (t : Fin cfg0.N) : iblk m c 7 t = iblk m c 7 t0 := rfl
theorem iblk_8 (c : Dev nD) (t : Fin cfg0.N) : iblk m c 8 t = iblk m c 8 t0 := rfl

/-! ## The body at a point -/

theorem anyAt_owns (c : Dev nD) (b : Ref sig .tc) :
    (anyAt c b : sProp 𝕄) ⊢ iprop(∃ d, owns (c : Thread nD τ) (Memref.whole b) fullShare d) := by
  unfold anyAt
  iintro ⟨%f, H⟩
  iexists f
  iapply (show ((c : Thread nD τ).loc b ↦{fullShare} f : sProp 𝕄) ⊢ owns (c : Thread nD τ) (Memref.whole b) fullShare f from by
    rw [owns_whole])
  iexact H

theorem owns_anyAt (c : Dev nD) (b : Ref sig .tc) :
    iprop(∃ d, owns (c : Thread nD τ) (Memref.whole b) fullShare d) ⊢ (anyAt c b : sProp 𝕄) := by
  unfold anyAt
  iintro ⟨%f, H⟩
  iexists f
  iapply (show owns (c : Thread nD τ) (Memref.whole b) fullShare f ⊢ ((c : Thread nD τ).loc b ↦{fullShare} f : sProp 𝕄) from by
    rw [owns_whole])
  iexact H

theorem owns_anyAt_of (c : Dev nD) (b : Ref sig .tc) (f : b.ty.Contents (Elt F)) :
    (owns (c : Thread nD τ) (Memref.whole b) fullShare f : sProp 𝕄) ⊢ (anyAt c b : sProp 𝕄) := by
  iintro H
  iapply (owns_anyAt c b)
  iexists f
  iexact H

/-- The scratch buffers one by one. -/
theorem ΦA_eq (c : Dev nD) : (ΦA spec0 c : sProp 𝕄) = iprop((anyAt c cc0_scratch0 ∗ anyAt c cc0_scratch1 ∗ anyAt c cc0_scratch2
    ∗ anyAt c cc0_scratch3 ∗ anyAt c cc0_scratch4 ∗ anyAt c cc0_scratch5 ∗ anyAt c cc0_scratch6 ∗ anyAt c cc0_scratch7) ∗ ∃ r, prngReg c r) := by
  unfold ΦA
  rw [scopedRest0_eq]
  rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- What it returns at a point that is not the last, where it leaves three of the outputs as it found them, -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

/-- and at the last. -/
def bodyPostLast (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 2000000 in
/-- The first point. -/
theorem body_first (c : Dev nD) (t : Fin cfg0.N) (h : t.val = 0) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Φn m c t.val from rfl, show (dats m 0 c).Φ t.succ = Φn m c (t.val + 1) from rfl,
    after0_0, after0_1, after0_2, after0_3, after0_4, after0_5, after0_6, after0_7, after0_8, after0_9,
    iblk_3 m c t, iblk_4 m c t, iblk_5 m c t, iblk_6 m c t, iblk_7 m c t, iblk_8 m c t]
  rw [Φn_zero m c h, ΦA_eq, Φn_mid m c (by omega) (by omega)]
  unfold Φc O9
  rw [S19_succ, S20_succ, S21_succ, h]
  unfold S19 S20 S21 gI vI
  iintro ⟨⟨⟨G14, G15, G16, G17, G18, G19, G20, G21⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_first c Set.univ (grid0.coords t) ((cond1_iff t).2 h) (fun h2 => by have := (cond2_iff t).1 h2; omega) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t0) (iblk m c 4 t0) (iblk m c 5 t0) (iblk m c 6 t0) (iblk m c 7 t0) (iblk m c 8 t0) _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [G14]; · iapply (anyAt_owns c cc0_scratch0); iexact G14
  isplitl [G15]; · iapply (anyAt_owns c cc0_scratch1); iexact G15
  isplitl [G16]; · iapply (anyAt_owns c cc0_scratch2); iexact G16
  isplitl [G17]; · iapply (anyAt_owns c cc0_scratch3); iexact G17
  isplitl [G18]; · iapply (anyAt_owns c cc0_scratch4); iexact G18
  isplitl [G19]; · iapply (anyAt_owns c cc0_scratch5); iexact G19
  isplitl [G20]; · iapply (anyAt_owns c cc0_scratch6); iexact G20
  isplitl [G21]; · iapply (anyAt_owns c cc0_scratch7); iexact G21
  iintro ⟨H0, H1, H2, H3, H4, H5, H6, H7, H8, H9, H10, H11, H12, G14, G15, G16, G17, G18, G19, G20, G21⟩
  isplitl [G14 G15 G16 G17 G18 G19 G20 G21 Hr]
  · isplitl [G14]; · iexact G14
    isplitl [G15]; · iapply (owns_anyAt c cc0_scratch1); iexact G15
    isplitl [G16]; · iapply (owns_anyAt c cc0_scratch2); iexact G16
    isplitl [G17]; · iapply (owns_anyAt c cc0_scratch3); iexact G17
    isplitl [G18]; · iexact G18
    isplitl [G19]; · iexact G19
    isplitl [G20]; · iexact G20
    isplitl [G21]; · iexact G21
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 2000000 in
/-- A point that is neither the first nor the last. -/
theorem body_mid (c : Dev nD) (t : Fin cfg0.N) (h : t.val ≠ 0) (h' : t.val ≠ 47) :
    bodyPre m c t ⊢ wp frame (wpE (defs₀ (F := F)) Variants.none c none) Set.univ (bodyAt0 t) (fun _ => bodyPost m c t) := by
  have hN := lt_N t
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Φn m c t.val from rfl, show (dats m 0 c).Φ t.succ = Φn m c (t.val + 1) from rfl,
    after0_0, after0_1, after0_2, after0_3, after0_4, after0_5, after0_6, after0_7, after0_8, after0_9,
    iblk_3 m c t, iblk_4 m c t, iblk_5 m c t, iblk_6 m c t, iblk_7 m c t, iblk_8 m c t]
  rw [Φn_mid m c h (by omega), Φn_mid m c (by omega) (by omega)]
  unfold Φc O9
  rw [S19_succ, S20_succ, S21_succ]
  iintro ⟨⟨G14, G15, G16, G17, G18, G19, G20, G21, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_mid c Set.univ (grid0.coords t) (fun h1 => h ((cond1_iff t).1 h1)) (fun h2 => h' ((cond2_iff t).1 h2)) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t0) (iblk m c 4 t0) (iblk m c 5 t0) (iblk m c 6 t0) (iblk m c 7 t0) (iblk m c 8 t0) _ _ _ (vI m c) (gI m c) (S19 m c t.val) (S20 m c t.val) (S21 m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [G14]; · iexact G14
  isplitl [G15]; · iapply (anyAt_owns c cc0_scratch1); iexact G15
  isplitl [G16]; · iapply (anyAt_owns c cc0_scratch2); iexact G16
  isplitl [G17]; · iapply (anyAt_owns c cc0_scratch3); iexact G17
  isplitl [G18]; · iexact G18
  isplitl [G19]; · iexact G19
  isplitl [G20]; · iexact G20
  isplitl [G21]; · iexact G21
  iintro ⟨H0, H1, H2, H3, H4, H5, H6, H7, H8, H9, H10, H11, H12, G14, G15, G16, G17, G18, G19, G20, G21⟩
  isplitl [G14 G15 G16 G17 G18 G19 G20 G21 Hr]
  · isplitl [G14]; · iexact G14
    isplitl [G15]; · iapply (owns_anyAt c cc0_scratch1); iexact G15
    isplitl [G16]; · iapply (owns_anyAt c cc0_scratch2); iexact G16
    isplitl [G17]; · iapply (owns_anyAt c cc0_scratch3); iexact G17
    isplitl [G18]; · iexact G18
    isplitl [G19]; · iexact G19
    isplitl [G20]; · iexact G20
    isplitl [G21]; · iexact G21
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iexists _; iexact H12

set_option maxHeartbeats 2000000 in
/-- The last point. -/
theorem body_last (c : Dev nD) (t : Fin cfg0.N) (h : t.val = 47) :
    bodyPre m c t ⊢ wp frame (wpE (defs₀ (F := F)) Variants.none c none) Set.univ (bodyAt0 t) (fun _ => bodyPostLast m c t) := by
  have hN := lt_N t
  unfold bodyPre bodyPostLast bodyAt0
  simp only [before0_0, before0_1, before0_2, before0_3, before0_4, before0_5, before0_6, before0_7, before0_8]
  rw [show (dats m 0 c).owesAt () t.succ = (dats m 0 c).owesAt () t.castSucc from rfl,
    show (dats m 0 c).Φ t.castSucc = Φn m c t.val from rfl, show (dats m 0 c).Φ t.succ = Φn m c (t.val + 1) from rfl,
    after0_0, after0_1, after0_2, after0_3, after0_4, after0_5, after0_6, after0_7, after0_8, after0_9, after0_10, after0_11, after0_12,
    iblk_3 m c t, iblk_4 m c t, iblk_5 m c t, iblk_6 m c t, iblk_7 m c t, iblk_8 m c t]
  rw [Φn_mid m c (by omega) (by omega), Φn_last m c (by omega), ΦA_eq]
  unfold Φc O9 O10 O11 O12 gL
  rw [show 48 = t.val + 1 from by omega, S19_succ, S20_succ, S21_succ]
  iintro ⟨⟨G14, G15, G16, G17, G18, G19, G20, G21, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_last c Set.univ (grid0.coords t) (fun h1 => by have := (cond1_iff t).1 h1; omega) ((cond2_iff t).2 h) _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t0) (iblk m c 4 t0) (iblk m c 5 t0) (iblk m c 6 t0) (iblk m c 7 t0) (iblk m c 8 t0) (vI m c) (gI m c) (S19 m c t.val) (S20 m c t.val) (S21 m c t.val) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [G14]; · iexact G14
  isplitl [G15]; · iapply (anyAt_owns c cc0_scratch1); iexact G15
  isplitl [G16]; · iapply (anyAt_owns c cc0_scratch2); iexact G16
  isplitl [G17]; · iapply (anyAt_owns c cc0_scratch3); iexact G17
  isplitl [G18]; · iexact G18
  isplitl [G19]; · iexact G19
  isplitl [G20]; · iexact G20
  isplitl [G21]; · iexact G21
  iintro ⟨H0, H1, H2, H3, H4, H5, H6, H7, H8, H9, H10, H11, H12, G14, G15, G16, G17, G18, G19, G20, G21⟩
  isplitl [G14 G15 G16 G17 G18 G19 G20 G21 Hr]
  · isplitl [G14 G15 G16 G17 G18 G19 G20 G21]
    · isplitl [G14]; · iapply (owns_anyAt_of c cc0_scratch0 _); iexact G14
      isplitl [G15]; · iapply (owns_anyAt c cc0_scratch1); iexact G15
      isplitl [G16]; · iapply (owns_anyAt c cc0_scratch2); iexact G16
      isplitl [G17]; · iapply (owns_anyAt c cc0_scratch3); iexact G17
      isplitl [G18]; · iapply (owns_anyAt c cc0_scratch4); iexact G18
      isplitl [G19]; · iapply (owns_anyAt c cc0_scratch5); iexact G19
      isplitl [G20]; · iapply (owns_anyAt c cc0_scratch6); iexact G20
      iapply (owns_anyAt c cc0_scratch7); iexact G21
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.Kernel.Gen
-- ==== Proof.Low.Launch.lean ====
/-
  The body's obligation at every grid point, the launch, and the program's frame: every run ends with the arguments as they were
  and every counter at zero.
-/
module

public import proofs.«01_k».proof.Proof.Gen.Kernel.Frame
public import proofs.«01_k».proof.Proof.Low.Run
public import Idealize.ShloMosaic.Lib.Claim
public import Idealize.ShloMosaic.Adequacy

@[expose] public section

set_option maxRecDepth 16384
noncomputable section

namespace Cert.Kernel.Gen

open Idealize.ShloMosaic Idealize.ShloMosaic.TcCoe Idealize.ShloMosaic.Tactic Cert.Tiles
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem idle_10 (t : Fin cfg0.N) (h : t.val ≠ 47) : cfg0.idle 10 (cfg0.grid.coords t) = true := by
  show (!(k0_cond2 (grid0.coords t) == 1#1)) = true
  have : ¬ k0_cond2 (grid0.coords t) = 1#1 := fun h2 => h ((cond2_iff t).1 h2)
  simp [this]
theorem live_10 (t : Fin cfg0.N) (h : t.val = 47) : cfg0.idle 10 (cfg0.grid.coords t) = false := by
  show (!(k0_cond2 (grid0.coords t) == 1#1)) = false
  simp [(cond2_iff t).2 h]
theorem noflush_10 (t : Fin cfg0.N) (h : t.val ≠ 47) : (cfg0.win 10).flush t = false :=
  Bool.eq_false_iff.mpr fun hf => by have := (flush0_10 t).1 hf; have := lt_N t; omega
theorem noflush_11 (t : Fin cfg0.N) (h : t.val ≠ 47) : (cfg0.win 11).flush t = false :=
  Bool.eq_false_iff.mpr fun hf => by have := (flush0_11 t).1 hf; have := lt_N t; omega
theorem noflush_12 (t : Fin cfg0.N) (h : t.val ≠ 47) : (cfg0.win 12).flush t = false :=
  Bool.eq_false_iff.mpr fun hf => by have := (flush0_12 t).1 hf; have := lt_N t; omega

/-- The body's obligation, at every point. -/
theorem body_obligation (c : Dev nD) : BodyObligation (dats (F := F) m 0 c) (defs₀ (F := F)) Variants.none () Set.univ := fun t => by
  rw [bigSep_W0, bigSep_W0, defs₀_row]
  by_cases hl : t.val = 47
  · rw [live_10 t hl]
    exact triple_restated (body_last m c t hl) rfl .rfl fun _ => .rfl
  · rw [idle_10 t hl, noflush_10 t hl, noflush_11 t hl, noflush_12 t hl]
    by_cases h0 : t.val = 0
    · exact triple_restated (body_first m c t h0) rfl .rfl fun _ => .rfl
    · exact triple_restated (body_mid m c t h0 hl) rfl .rfl fun _ => .rfl

/-! ## The launch -/

set_option backward.isDefEq.respectTransparency.types false in
set_option maxHeartbeats 800000 in
/-- Every run ends with each window's array at what the proof data says, every other buffer at what the lines around the region
    leave there, and every counter at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [show (dats m 0 c).Φ 0 = Φn m c 0 from rfl, Φn_zero m c rfl])
    (hout := fun c => by
      rw [show (dats m 0 c).Φ (Fin.last (cfgs 0).N) = Φn m c cfg0.N from rfl, Φn_last m c N_eq])
    (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every run ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

end Cert.Kernel.Gen
-- ==== Proof.Finite.lean ====
/-
  The finite extended reals, and the laws that hold of them alone: a quotient distributes over a sum of finite numbers,
  a finite sum or product has finite terms, and numbers may be subtracted one after the other or their sum at once.
-/
module

public import Idealize.ShloMosaic.Lib.Pointwise

@[expose] public section

noncomputable section

namespace Cert

open Idealize.ShloMosaic
open scoped BigOperators

/-- A number that is neither infinity. -/
def IsReal (x : EReal) : Prop := ∃ r : ℝ, x = (r : EReal)

theorem IsReal.of_ne {x : EReal} (h : x ≠ ⊤) (h' : x ≠ ⊥) : IsReal x := ⟨x.toReal, (EReal.coe_toReal h h').symm⟩

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem coe_sum {ι : Type} (s : Finset ι) (g : ι → ℝ) : ((∑ i ∈ s, g i : ℝ) : EReal) = ∑ i ∈ s, (g i : EReal) :=
  map_sum (⟨⟨Real.toEReal, EReal.coe_zero⟩, EReal.coe_add⟩ : ℝ →+ EReal) g s

theorem IsReal.sum {ι : Type} (s : Finset ι) (f : ι → EReal) (hf : ∀ i, IsReal (f i)) : IsReal (∑ i ∈ s, f i) := by
  choose g hg using hf
  exact ⟨∑ i ∈ s, g i, by rw [Finset.sum_congr rfl fun i _ => hg i, coe_sum]⟩

/-- The inverse of a number other than zero. -/
theorem IsReal.inv {y : EReal} (hy : y ≠ 0) : IsReal y⁻¹ := by
  induction y with
  | bot => exact ⟨0, by simp⟩
  | top => exact ⟨0, by simp⟩
  | coe r => exact ⟨r⁻¹, (EReal.coe_inv r).symm⟩

theorem IsReal.div {x y : EReal} (hx : IsReal x) (hy : y ≠ 0) : IsReal (Ideal.div x y) := by
  rw [Ideal.div, if_neg hy]; exact hx.mul (IsReal.inv hy)

/-- A sum of quotients by one number is the quotient of the sum. -/
theorem sum_div {ι : Type} (s : Finset ι) (f : ι → EReal) (y : EReal) (hf : ∀ i, IsReal (f i)) (hy : y ≠ 0) :
    ∑ i ∈ s, Ideal.div (f i) y = Ideal.div (∑ i ∈ s, f i) y := by
  choose g hg using hf
  obtain ⟨c, hc⟩ := IsReal.inv hy
  simp only [Ideal.div, if_neg hy, hc, hg]
  rw [← coe_sum, ← EReal.coe_mul, Finset.sum_mul, coe_sum]
  exact Finset.sum_congr rfl fun i _ => (EReal.coe_mul _ _).symm

/-- No quotient by zero is finite. -/
theorem ne_zero_of_div {x y : EReal} (h : IsReal (Ideal.div x y)) : y ≠ 0 := by
  rintro rfl
  obtain ⟨r, hr⟩ := h
  rw [Ideal.div, if_pos rfl] at hr
  split at hr
  · exact EReal.coe_ne_top r hr.symm
  · exact EReal.coe_ne_bot r hr.symm

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- The terms of a finite sum of two are finite. -/
theorem IsReal.of_add {x y : EReal} (h : IsReal (x + y)) : IsReal x ∧ IsReal y := by
  have hx : x ≠ ⊥ := fun e => h.ne_bot (by rw [e, EReal.bot_add])
  have hy : y ≠ ⊥ := fun e => h.ne_bot (by rw [e, EReal.add_bot])
  exact ⟨.of_ne (fun e => h.ne_top (by rw [e, EReal.top_add_of_ne_bot hy])) hx,
    .of_ne (fun e => h.ne_top (by rw [e, EReal.add_top_of_ne_bot hx])) hy⟩

/-- The terms of a finite sum are finite. -/
theorem IsReal.of_sum {ι : Type} (s : Finset ι) (f : ι → EReal) (h : IsReal (∑ i ∈ s, f i)) : ∀ i ∈ s, IsReal (f i) := by
  induction s using Finset.cons_induction with
  | empty => exact fun i hi => absurd hi (Finset.notMem_empty i)
  | cons a s ha ih =>
    rw [Finset.sum_cons] at h
    intro i hi
    rcases Finset.mem_cons.mp hi with rfl | hi
    · exact h.of_add.1
    · exact ih h.of_add.2 i hi

/-- A product with a finite number other than zero is finite only if its other factor is. -/
theorem IsReal.of_mul_coe {x : EReal} {r : ℝ} (hr : r ≠ 0) (h : IsReal (x * (r : EReal))) : IsReal x := by
  obtain ⟨a, ha⟩ := h
  induction x with
  | coe x => exact .coe x
  | bot =>
    rcases lt_or_gt_of_ne hr with hr | hr
    · rw [EReal.bot_mul_coe_of_neg hr] at ha; exact absurd ha.symm (EReal.coe_ne_top a)
    · rw [EReal.bot_mul_coe_of_pos hr] at ha; exact absurd ha.symm (EReal.coe_ne_bot a)
  | top =>
    rcases lt_or_gt_of_ne hr with hr | hr
    · rw [EReal.top_mul_coe_of_neg hr] at ha; exact absurd ha.symm (EReal.coe_ne_bot a)
    · rw [EReal.top_mul_coe_of_pos hr] at ha; exact absurd ha.symm (EReal.coe_ne_top a)

/-- A sum of quotients by one number and the quotient of the sum are the same as soon as one of them is finite, whatever the
    number. -/
theorem sum_div_of_real {ι : Type} [Fintype ι] [Nonempty ι] (f : ι → EReal) (y : EReal)
    (h : IsReal (∑ i, Ideal.div (f i) y) ∨ IsReal (Ideal.div (∑ i, f i) y)) : ∑ i, Ideal.div (f i) y = Ideal.div (∑ i, f i) y := by
  have hy : y ≠ 0 := by
    rcases h with h | h
    · exact ne_zero_of_div (IsReal.of_sum _ _ h (Classical.arbitrary ι) (Finset.mem_univ _))
    · exact ne_zero_of_div h
  induction y with
  | bot => simp [Ideal.div]
  | top => simp [Ideal.div]
  | coe y =>
    have hc : ∀ x, Ideal.div x (y : EReal) = x * ((y⁻¹ : ℝ) : EReal) := fun x => by rw [Ideal.div, if_neg hy, EReal.coe_inv]
    have hy' : (y⁻¹ : ℝ) ≠ 0 := inv_ne_zero fun e => hy (by rw [e]; rfl)
    refine sum_div _ f y (fun i => ?_) hy
    rcases h with h | h
    · have e := IsReal.of_sum _ _ h i (Finset.mem_univ i)
      rw [hc] at e
      exact e.of_mul_coe hy'
    · rw [hc] at h
      exact IsReal.of_sum _ _ (h.of_mul_coe hy') i (Finset.mem_univ i)

/-- Two subtractions in a row. -/
theorem sub_sub_real {x a b : EReal} (ha : IsReal a) (hb : IsReal b) : x - a - b = x - (a + b) := by
  obtain ⟨a, rfl⟩ := ha; obtain ⟨b, rfl⟩ := hb
  rw [sub_eq_add_neg, sub_eq_add_neg, sub_eq_add_neg, add_assoc, EReal.neg_add (.inl (EReal.coe_ne_bot a)) (.inl (EReal.coe_ne_top a)),
    sub_eq_add_neg]

end Cert
-- ==== Proof.Math.lean ====
/-
  The mathematics: from the arguments, read as functions of a token and a coordinate with values in the extended reals, the
  four cotangents of a DoRA linear layer.
-/
module

public import proofs.«01_k».proof.Proof.Finite

@[expose] public section

noncomputable section

namespace Cert

open Idealize.ShloMosaic
open scoped BigOperators

/-- The scale of the low-rank update, one half. -/
def half : EReal := Ideal.ofBits .f32 0x3F000000#32

theorem half_real : IsReal half := by
  unfold half
  refine IsReal.of_ne ?_ ?_ <;> simp [Ideal.ofBits, Ideal.ieee] <;> first | exact EReal.coe_ne_top _ | exact EReal.coe_ne_bot _

/-- The unsigned code a packed byte holds for an even (`e = 0`) or odd (`e = 1`) row, its sign bit flipped. -/
def code (b : BitVec 8) (e : ℕ) : ℕ := ((b >>> (4 * e)) &&& 15#8 ^^^ 8#8).toNat

/-- A packed weight. -/
def q (b : BitVec 8) (e : ℕ) : EReal := (((code b e : ℝ) - 8 : ℝ) : EReal)

/-- A token: its sequence and its place there. -/
abbrev Token := Fin 24 × Fin 512

/-- The arguments. -/
structure Ins where
  dy : Token → Fin 8192 → EReal
  x : Token → Fin 2048 → EReal
  xs : Token → EReal
  wp : Fin 1024 → Fin 8192 → BitVec 8
  ws : Fin 16 → Fin 8192 → EReal
  a : Fin 2048 → Fin 8 → EReal
  b : Fin 8 → Fin 8192 → EReal
  mg : Fin 8192 → EReal
  cn : Fin 8192 → EReal

namespace Ins
variable (X : Ins)

/-- The adapted weight. -/
def v (i : Fin 2048) (o : Fin 8192) : EReal :=
  q (X.wp ⟨i.val / 2, by omega⟩ o) (i.val % 2) * X.ws ⟨i.val / 128, by omega⟩ o + half * ∑ r : Fin 8, X.a i r * X.b r o

/-- A column's magnitude over its norm. -/
def gain (o : Fin 8192) : EReal := Ideal.div (X.mg o) (X.cn o)

/-- The output's cotangent times the gain. -/
def dyp (t : Token) (o : Fin 8192) : EReal := X.dy t o * X.gain o

/-- The input's cotangent. -/
def dx (t : Token) (i : Fin 2048) : EReal := ∑ o : Fin 8192, X.dyp t o * X.v i o

/-- A token's part of the magnitudes' cotangent, before the division by the norm. -/
def dmTerm (t : Token) (o : Fin 8192) : EReal := X.dy t o * ((∑ i : Fin 2048, X.x t i * X.v i o) * X.xs t)

/-- The magnitudes' cotangent. -/
def dm (o : Fin 8192) : EReal := Ideal.div (∑ t : Token, X.dmTerm t o) (X.cn o)

/-- The same, with the division inside the sum, as reference.py has it. -/
def dmR (o : Fin 8192) : EReal := ∑ t : Token, Ideal.div (X.dmTerm t o) (X.cn o)

/-- The factor by which a column's part along its weight is taken off. -/
def cc (o : Fin 8192) : EReal := Ideal.div (X.dm o * X.mg o) (X.cn o * X.cn o)

/-- The second adapter matrix's cotangent. -/
def db (r : Fin 8) (o : Fin 8192) : EReal :=
  half * ((∑ t : Token, (∑ i : Fin 2048, X.x t i * X.a i r) * X.xs t * X.dyp t o) - ∑ i : Fin 2048, X.a i r * (X.v i o * X.cc o))

/-- The first adapter matrix's cotangent. -/
def da (i : Fin 2048) (r : Fin 8) : EReal :=
  half * ((∑ t : Token, X.x t i * X.xs t * ∑ o : Fin 8192, X.dyp t o * X.b r o) - ∑ o : Fin 8192, X.v i o * X.cc o * X.b r o)

/-- The weights' scales, the adapter matrices and the magnitudes are finite. -/
structure WeightsFinite : Prop where
  ws : ∀ k o, IsReal (X.ws k o)
  a : ∀ i r, IsReal (X.a i r)
  b : ∀ r o, IsReal (X.b r o)
  mg : ∀ o, IsReal (X.mg o)

variable {X}

theorem WeightsFinite.v (h : X.WeightsFinite) (i : Fin 2048) (o : Fin 8192) : IsReal (X.v i o) :=
  ((IsReal.coe _).mul (h.ws _ _)).add (half_real.mul (IsReal.sum _ _ fun r => (h.a i r).mul (h.b r o)))

/-- What is taken off the first adapter matrix's cotangent is finite, term by term, where the magnitudes' cotangent is. -/
theorem WeightsFinite.corr (h : X.WeightsFinite) (hd : ∀ o, IsReal (X.dm o)) (i : Fin 2048) (r : Fin 8) (o : Fin 8192) :
    IsReal (X.v i o * X.cc o * X.b r o) :=
  ((h.v i o).mul (((hd o).mul (h.mg o)).div (mul_ne_zero (ne_zero_of_div (hd o)) (ne_zero_of_div (hd o))))).mul (h.b r o)

end Ins

/-- A division by a positive number goes into a sum. -/
theorem sum_div_pos {ι : Type} [Fintype ι] (f : ι → EReal) {y : EReal} (hy : 0 < y) :
    ∑ i, Ideal.div (f i) y = Ideal.div (∑ i, f i) y := by
  have hd : ∀ x, Ideal.div x y = y⁻¹ * x := fun x => by rw [Ideal.div, if_neg hy.ne', mul_comm]
  have h0 : (0 : EReal) ≤ y⁻¹ := EReal.inv_nonneg_of_nonneg hy.le
  have h1 : y⁻¹ ≠ ⊤ := by
    induction y with
    | bot => simp
    | top => simp
    | coe y => rw [← EReal.coe_inv]; exact EReal.coe_ne_top _
  simp only [hd]
  induction (Finset.univ : Finset ι) using Finset.cons_induction with
  | empty => simp
  | cons a s ha ih => rw [Finset.sum_cons, Finset.sum_cons, ih, EReal.left_distrib_of_nonneg_of_ne_top h0 h1]

/-- Token `256 n + p`. -/
def tok (n : Fin 48) (p : Fin 256) : Token :=
  (⟨(256 * n.val + p.val) / 512, by omega⟩, ⟨(256 * n.val + p.val) % 512, by omega⟩)

/-- A sum over the tokens, 256 at a time. -/
theorem sum_tok (f : Token → EReal) : ∑ n : Fin 48, ∑ p : Fin 256, f (tok n p) = ∑ t : Token, f t := by
  rw [← Fintype.sum_prod_type']
  refine Fintype.sum_equiv ((finProdFinEquiv (m := 48) (n := 256)).trans ((finCongr (by decide : 48 * 256 = 24 * 512)).trans
    finProdFinEquiv.symm)) _ _ fun x => congrArg f (Prod.ext (Fin.ext ?_) (Fin.ext ?_))
  · show (256 * x.1.val + x.2.val) / 512 = (x.2.val + 256 * x.1.val) / 512
    rw [Nat.add_comm]
  · show (256 * x.1.val + x.2.val) % 512 = (x.2.val + 256 * x.1.val) % 512
    rw [Nat.add_comm]

/-- What starts at nothing and gains `f t` at step `t` ends at the sum. -/
theorem sum_of_steps {N : ℕ} (S : ℕ → EReal) (f : Fin N → EReal) (h0 : S 0 = 0) (hs : ∀ t : Fin N, S (t.val + 1) = S t.val + f t) :
    S N = ∑ t, f t := by
  have key : ∀ n (hn : n ≤ N), S n = ∑ k : Fin n, f (k.castLE hn) := by
    intro n
    induction n with
    | zero => intro _; rw [h0, Fin.sum_univ_zero]
    | succ n ih => intro hn; rw [hs ⟨n, hn⟩, ih (by omega), Fin.sum_univ_castSucc (n := n)]; rfl
  exact key N le_rfl

end Cert
-- ==== Proof.Blocks.lean ====
/-
  The kernel's input blocks read at an element: which element of which argument each of them holds.
-/
module

public import proofs.«01_k».proof.Proof.Run
public import proofs.«01_k».proof.Proof.Math
public import Idealize.ShloMosaic.Lib.StableHlo.ReadAt

@[expose] public section

set_option maxRecDepth 16384
noncomputable section

namespace Cert.KernelIdeal.Gen

open Idealize.ShloMosaic Idealize.ShloMosaic.TcCoe Cert.Tiles

variable (m : (ℓ : Loc nD τ sig) → Buf (Elt Ideal) ℓ)

/-- The arguments of the kernel's program, as functions. -/
def ins (c : Dev nD) : Ins where
  dy t o := (m ((c : Thread nD τ).loc main_arg0) : FVec Ideal S24x512x8192 .bf16) (ix3 t.1 t.2 o)
  x t i := (m ((c : Thread nD τ).loc main_arg1) : FVec Ideal S24x512x2048 .fp8e4m3) (ix3 t.1 t.2 i)
  xs t := (m ((c : Thread nD τ).loc main_arg2) : FVec Ideal S24x512 .f32) (ix2 t.1 t.2)
  wp k o := (m ((c : Thread nD τ).loc main_arg3) : IVec S1024x8192 8) (ix2 k o)
  ws k o := (m ((c : Thread nD τ).loc main_arg4) : FVec Ideal S16x8192 .bf16) (ix2 k o)
  a i r := (m ((c : Thread nD τ).loc main_arg5) : FVec Ideal S2048x8 .bf16) (ix2 i r)
  b r o := (m ((c : Thread nD τ).loc main_arg6) : FVec Ideal S8x8192 .bf16) (ix2 r o)
  mg o := (m ((c : Thread nD τ).loc main_arg7) : FVec Ideal S8192 .f32) (ix1 o)
  cn o := (m ((c : Thread nD τ).loc main_arg8) : FVec Ideal S8192 .f32) (ix1 o)

/-! ### What the host leaves before the region -/

theorem V_main_v0_at (c : Dev nD) (p : Fin 12288) (o : Fin 8192) : (V m c main_v0 : FVec Ideal S12288x8192 .bf16) (ix2 p o)
    = (ins m c).dy (⟨p.val / 512, by omega⟩, ⟨p.val % 512, by omega⟩) o := by
  unfold V ins
  after_reads_at

theorem V_main_v1_at (c : Dev nD) (p : Fin 12288) (i : Fin 2048) : (V m c main_v1 : FVec Ideal S12288x2048 .fp8e4m3) (ix2 p i)
    = (ins m c).x (⟨p.val / 512, by omega⟩, ⟨p.val % 512, by omega⟩) i := by
  unfold V ins
  after_reads_at

theorem V_main_v2_at (c : Dev nD) (p : Fin 12288) : (V m c main_v2 : FVec Ideal S12288x1 .f32) (ix2 p 0)
    = (ins m c).xs (⟨p.val / 512, by omega⟩, ⟨p.val % 512, by omega⟩) := by
  unfold V ins
  after_reads_at

theorem V_main_v3_at (c : Dev nD) (o : Fin 8192) : (V m c main_v3 : FVec Ideal S1x8192 .f32) (ix2 0 o) = (ins m c).mg o := by
  unfold V ins
  after_reads_at

theorem V_main_v4_at (c : Dev nD) (o : Fin 8192) : (V m c main_v4 : FVec Ideal S1x8192 .f32) (ix2 0 o) = (ins m c).cn o := by
  unfold V ins
  after_reads_at

/-! ### The blocks -/

/-- Which block of the tokens a point is given. -/
theorem index_tok : ∀ t : Fin cfg0.N, win0_0.index t 0 = t.val ∧ win0_0.index t 1 = 0 ∧ win0_1.index t 0 = t.val ∧ win0_1.index t 1 = 0
    ∧ win0_2.index t 0 = t.val ∧ win0_2.index t 1 = 0 :=
  (by decide : ∀ t : Fin grid0.N, win0_0.index t 0 = t.val ∧ win0_0.index t 1 = 0 ∧ win0_1.index t 0 = t.val ∧ win0_1.index t 1 = 0
    ∧ win0_2.index t 0 = t.val ∧ win0_2.index t 1 = 0)

/-- Point `t` as a number below 48. -/
abbrev pt (t : Fin cfg0.N) : Fin 48 := ⟨t.val, lt_N t⟩

theorem blk0_at (c : Dev nD) (t : Fin cfg0.N) (p : Fin 256) (o : Fin 8192) :
    (iblk m c 0 t : FVec Ideal S256x8192 .bf16) (ix2 p o) = (ins m c).dy (tok (pt t) p) o := by
  have ht := lt_N t
  refine Eq.trans ?_ (V_main_v0_at m c ⟨256 * t.val + p.val, by omega⟩ o)
  unfold iblk
  rw [View.read_apply]
  show V m c main_v0 _ = V m c main_v0 _
  congr 1
  funext a
  apply Fin.ext
  match a with
  | ⟨0, _⟩ => show win0_0.index t 0 * 256 + 1 * p.val = 256 * t.val + p.val; rw [(index_tok t).1]; omega
  | ⟨1, _⟩ => show win0_0.index t 1 * 8192 + 1 * o.val = o.val; rw [(index_tok t).2.1]; omega

theorem blk1_at (c : Dev nD) (t : Fin cfg0.N) (p : Fin 256) (i : Fin 2048) :
    (iblk m c 1 t : FVec Ideal S256x2048 .fp8e4m3) (ix2 p i) = (ins m c).x (tok (pt t) p) i := by
  have ht := lt_N t
  refine Eq.trans ?_ (V_main_v1_at m c ⟨256 * t.val + p.val, by omega⟩ i)
  unfold iblk
  rw [View.read_apply]
  show V m c main_v1 _ = V m c main_v1 _
  congr 1
  funext a
  apply Fin.ext
  match a with
  | ⟨0, _⟩ => show win0_1.index t 0 * 256 + 1 * p.val = 256 * t.val + p.val; rw [(index_tok t).2.2.1]; omega
  | ⟨1, _⟩ => show win0_1.index t 1 * 2048 + 1 * i.val = i.val; rw [(index_tok t).2.2.2.1]; omega

theorem blk2_at (c : Dev nD) (t : Fin cfg0.N) (p : Fin 256) :
    (iblk m c 2 t : FVec Ideal S256x1 .f32) (ix2 p 0) = (ins m c).xs (tok (pt t) p) := by
  have ht := lt_N t
  refine Eq.trans ?_ (V_main_v2_at m c ⟨256 * t.val + p.val, by omega⟩)
  unfold iblk
  rw [View.read_apply]
  show V m c main_v2 _ = V m c main_v2 _
  congr 1
  funext a
  apply Fin.ext
  match a with
  | ⟨0, _⟩ => show win0_2.index t 0 * 256 + 1 * p.val = 256 * t.val + p.val; rw [(index_tok t).2.2.2.2.1]; omega
  | ⟨1, _⟩ => show win0_2.index t 1 * 1 + 1 * 0 = 0; rw [(index_tok t).2.2.2.2.2]

theorem blk3_at (c : Dev nD) (k : Fin 1024) (o : Fin 8192) : (iblk m c 3 t0 : IVec S1024x8192 8) (ix2 k o) = (ins m c).wp k o := by
  unfold iblk
  rw [View.read_apply]
  show V m c main_arg3 _ = _
  rw [V_main_arg3]
  show _ = m ((c : Thread nD τ).loc main_arg3) _
  congr 1
  funext a
  apply Fin.ext
  match a with
  | ⟨0, _⟩ => show 0 * 1024 + 1 * k.val = k.val; omega
  | ⟨1, _⟩ => show 0 * 8192 + 1 * o.val = o.val; omega

theorem blk4_at (c : Dev nD) (k : Fin 16) (o : Fin 8192) : (iblk m c 4 t0 : FVec Ideal S16x8192 .bf16) (ix2 k o) = (ins m c).ws k o := by
  unfold iblk
  rw [View.read_apply]
  show V m c main_arg4 _ = _
  rw [V_main_arg4]
  show _ = m ((c : Thread nD τ).loc main_arg4) _
  congr 1
  funext a
  apply Fin.ext
  match a with
  | ⟨0, _⟩ => show 0 * 16 + 1 * k.val = k.val; omega
  | ⟨1, _⟩ => show 0 * 8192 + 1 * o.val = o.val; omega

theorem blk5_at (c : Dev nD) (i : Fin 2048) (r : Fin 8) : (iblk m c 5 t0 : FVec Ideal S2048x8 .bf16) (ix2 i r) = (ins m c).a i r := by
  unfold iblk
  rw [View.read_apply]
  show V m c main_arg5 _ = _
  rw [V_main_arg5]
  show _ = m ((c : Thread nD τ).loc main_arg5) _
  congr 1
  funext a
  apply Fin.ext
  match a with
  | ⟨0, _⟩ => show 0 * 2048 + 1 * i.val = i.val; omega
  | ⟨1, _⟩ => show 0 * 8 + 1 * r.val = r.val; omega

theorem blk6_at (c : Dev nD) (r : Fin 8) (o : Fin 8192) : (iblk m c 6 t0 : FVec Ideal S8x8192 .bf16) (ix2 r o) = (ins m c).b r o := by
  unfold iblk
  rw [View.read_apply]
  show V m c main_arg6 _ = _
  rw [V_main_arg6]
  show _ = m ((c : Thread nD τ).loc main_arg6) _
  congr 1
  funext a
  apply Fin.ext
  match a with
  | ⟨0, _⟩ => show 0 * 8 + 1 * r.val = r.val; omega
  | ⟨1, _⟩ => show 0 * 8192 + 1 * o.val = o.val; omega

theorem blk7_at (c : Dev nD) (o : Fin 8192) : (iblk m c 7 t0 : FVec Ideal S1x8192 .f32) (ix2 0 o) = (ins m c).mg o := by
  refine Eq.trans ?_ (V_main_v3_at m c o)
  unfold iblk
  rw [View.read_apply]
  show V m c main_v3 _ = V m c main_v3 _
  congr 1
  funext a
  apply Fin.ext
  match a with
  | ⟨0, _⟩ => show 0 * 1 + 1 * 0 = 0; omega
  | ⟨1, _⟩ => show 0 * 8192 + 1 * o.val = o.val; omega

theorem blk8_at (c : Dev nD) (o : Fin 8192) : (iblk m c 8 t0 : FVec Ideal S1x8192 .f32) (ix2 0 o) = (ins m c).cn o := by
  refine Eq.trans ?_ (V_main_v4_at m c o)
  unfold iblk
  rw [View.read_apply]
  show V m c main_v4 _ = V m c main_v4 _
  congr 1
  funext a
  apply Fin.ext
  match a with
  | ⟨0, _⟩ => show 0 * 1 + 1 * 0 = 0; omega
  | ⟨1, _⟩ => show 0 * 8192 + 1 * o.val = o.val; omega

end Cert.KernelIdeal.Gen
-- ==== Proof.Pay.lean ====
/-
  The kernel's stores read at one element, over the extended reals: every conversion is the identity there and every
  matrix product is the plain sum of products.
-/
module

public import proofs.«01_k».proof.Proof.Spec
public import proofs.«01_k».proof.Proof.Math
public import Idealize.ShloMosaic.Lib.BitcastPair

@[expose] public section

set_option maxRecDepth 16384
noncomputable section

namespace Cert.KernelIdeal.Gen

open Idealize.ShloMosaic Idealize.ShloMosaic.TcCoe Cert.Tiles
open scoped BigOperators

theorem pay1_at (x : FVec Ideal S256x2048 .bf16) (s : FVec Ideal S2048x8 .f32) (h : FVec Ideal S256x8 .bf16) (i : Fin 2048) (r : Fin 8) :
    k0_pay1 (F := Ideal) x s h (ix2 i r) = s (ix2 i r) + ∑ p : Fin 256, x (ix2 p i) * h (ix2 p r) := by
  pointwise [k0_pay1]

theorem pay2_at (d : FVec Ideal S256x8192 .bf16) (v : FVec Ideal S512x8192 .bf16) (p : Fin 256) (i : Fin 512) :
    k0_pay2 (F := Ideal) d v (ix2 p i) = ∑ o : Fin 8192, d (ix2 p o) * v (ix2 i o) := by
  pointwise [k0_pay2]

theorem pay4_at (cn s : FVec Ideal S1x8192 .f32) (o : Fin 8192) :
    k0_pay4 (F := Ideal) cn s (ix2 0 o) = Ideal.div (s (ix2 0 o)) (cn (ix2 0 o)) := by
  pointwise [k0_pay4, k0_pay3]

theorem pay5_at (cn s mg : FVec Ideal S1x8192 .f32) (o : Fin 8192) :
    k0_pay5 (F := Ideal) cn s mg (ix2 0 o)
      = Ideal.div (Ideal.div (s (ix2 0 o)) (cn (ix2 0 o)) * mg (ix2 0 o)) (cn (ix2 0 o) * cn (ix2 0 o)) := by
  pointwise [k0_pay5, k0_pay4, k0_pay3]

theorem pay7_at (v : FVec Ideal S2048x512 .bf16) (g : FVec Ideal S1x512 .f32) (a : FVec Ideal S2048x8 .bf16)
    (x : FVec Ideal S8x512 .f32) (r : Fin 8) (o : Fin 512) :
    k0_pay7 (F := Ideal) v g a x (ix2 r o) = half * (x (ix2 r o) - ∑ i : Fin 2048, a (ix2 i r) * (v (ix2 i o) * g (ix2 0 o))) := by
  pointwise [k0_pay7, k0_pay6, half]

theorem pay8_at (v : FVec Ideal S2048x512 .bf16) (g : FVec Ideal S1x512 .f32) (x : FVec Ideal S2048x8 .f32)
    (b : FVec Ideal S8x512 .bf16) (i : Fin 2048) (r : Fin 8) :
    k0_pay8 (F := Ideal) v g x b (ix2 i r) = x (ix2 i r) - ∑ o : Fin 512, v (ix2 i o) * g (ix2 0 o) * b (ix2 r o) := by
  pointwise [k0_pay8, k0_pay6]

theorem pay9_at (x : FVec Ideal S2048x8 .f32) (i : Fin 2048) (r : Fin 8) :
    k0_pay9 (F := Ideal) x (ix2 i r) = half * x (ix2 i r) := by
  pointwise [k0_pay9, half]

theorem pay37_at (dy : FVec Ideal S256x512 .bf16) (g : FVec Ideal S1x512 .f32) (p : Fin 256) (o : Fin 512) :
    k0_pay37 (F := Ideal) dy g (ix2 p o) = dy (ix2 p o) * g (ix2 0 o) := by
  pointwise [k0_pay37, k0_pay36]

theorem pay38_at (dy : FVec Ideal S256x512 .bf16) (g : FVec Ideal S1x512 .f32) (p : Fin 256) (o : Fin 512) :
    k0_pay38 (F := Ideal) dy g (ix2 p o) = dy (ix2 p o) * g (ix2 0 o) := by
  pointwise [k0_pay38, k0_pay37, k0_pay36]

theorem pay39_at (xs : FVec Ideal S256x1 .f32) (dy : FVec Ideal S256x512 .bf16) (xb : FVec Ideal S256x2048 .bf16)
    (v : FVec Ideal S2048x512 .bf16) (s : FVec Ideal S1x512 .f32) (o : Fin 512) :
    k0_pay39 (F := Ideal) xs dy xb v s (ix2 0 o)
      = s (ix2 0 o) + ∑ p : Fin 256, dy (ix2 p o) * ((∑ i : Fin 2048, xb (ix2 p i) * v (ix2 i o)) * xs (ix2 p 0)) := by
  pointwise [k0_pay39, k0_pay36]

theorem pay40_at (dy : FVec Ideal S256x512 .bf16) (g : FVec Ideal S1x512 .f32) (h : FVec Ideal S256x8 .f32)
    (b : FVec Ideal S8x512 .bf16) (p : Fin 256) (r : Fin 8) :
    k0_pay40 (F := Ideal) dy g h b (ix2 p r) = h (ix2 p r) + ∑ o : Fin 512, dy (ix2 p o) * g (ix2 0 o) * b (ix2 r o) := by
  pointwise [k0_pay40, k0_pay37, k0_pay36]

theorem pay41_at (mg cn : FVec Ideal S1x8192 .f32) (o : Fin 8192) :
    k0_pay41 (F := Ideal) mg cn (ix2 0 o) = Ideal.div (mg (ix2 0 o)) (cn (ix2 0 o)) := by
  pointwise [k0_pay41]

theorem pay42_at (j : S1x8192.Idx) : k0_pay42 (F := Ideal) j = 0 := by pointwise [k0_pay42]
theorem pay43_at (j : S2048x8.Idx) : k0_pay43 (F := Ideal) j = 0 := by pointwise [k0_pay43]
theorem pay44_at (j : S8x8192.Idx) : k0_pay44 (F := Ideal) j = 0 := by pointwise [k0_pay44]
theorem pay48_at (j : S256x8.Idx) : k0_pay48 (F := Ideal) j = 0 := by pointwise [k0_pay48]

theorem pay46_at (x : FVec Ideal S256x2048 .fp8e4m3) (p : Fin 256) (i : Fin 2048) : k0_pay46 (F := Ideal) x (ix2 p i) = (x : _ → EReal) (ix2 p i) := by
  pointwise [k0_pay46]

theorem pay47_at (x : FVec Ideal S256x1 .f32) (p : Fin 256) : k0_pay47 (F := Ideal) x (ix2 p 0) = x (ix2 p 0) := by
  pointwise [k0_pay47]

theorem pay49_at (xs : FVec Ideal S256x1 .f32) (xb : FVec Ideal S256x2048 .bf16) (a : FVec Ideal S2048x8 .bf16)
    (d : FVec Ideal S256x512 .bf16) (s : FVec Ideal S8x512 .f32) (r : Fin 8) (o : Fin 512) :
    k0_pay49 (F := Ideal) xs xb a d s (ix2 r o)
      = s (ix2 r o) + ∑ p : Fin 256, (∑ i : Fin 2048, xb (ix2 p i) * a (ix2 i r)) * xs (ix2 p 0) * d (ix2 p o) := by
  pointwise [k0_pay49, k0_pay47]

theorem pay50_at (xs : FVec Ideal S256x1 .f32) (xb : FVec Ideal S256x2048 .bf16) (p : Fin 256) (i : Fin 2048) :
    k0_pay50 (F := Ideal) xs xb (ix2 p i) = xb (ix2 p i) * xs (ix2 p 0) := by
  pointwise [k0_pay50, k0_pay47]

theorem pay51_at (h : FVec Ideal S256x8 .f32) (p : Fin 256) (r : Fin 8) : k0_pay51 (F := Ideal) h (ix2 p r) = (h : _ → EReal) (ix2 p r) := by
  pointwise [k0_pay51]

/-! ### The packed four-bit weights -/

theorem code_lt (b : BitVec 8) (e : Fin 2) : code b e.val < 16 := by
  revert b e; decide +kernel

/-- The halves of the word the kernel builds of a byte. -/
theorem half_word (b : BitVec 8) (e : Fin 2) :
    (((b.setWidth 32 ||| b.setWidth 32 <<< 12) &&& 983055#32) ^^^ 1124614920#32).extractLsb' (16 * e.val) 16
      = 0x4300#16 + BitVec.ofNat 16 (code b e.val) := by
  revert b e; decide +kernel

/-- Such a half, read as a number. -/
theorem ofBits_code (n : ℕ) (hn : n < 16) : Ideal.ofBits .bf16 (0x4300#16 + BitVec.ofNat 16 n) = ((128 + n : ℝ) : EReal) := by
  interval_cases n <;> (simp [Ideal.ofBits, Ideal.ieee, -EReal.coe_mul, -EReal.coe_add]; try norm_num)

/-- The weights of a block, read out of the packed bytes. -/
theorem unpack_at (wp : IVec S64x512 8) (p : Fin 128) (o : Fin 512) :
    bitcast S128x512 16 (xori (andi (ori (extui 32 wp natLt_8_32) (shli (extui 32 wp natLt_8_32) (broadcast S64x512 12#32)))
        (broadcast S64x512 983055#32)) (broadcast S64x512 1124614920#32)) bitcasts_S64x512_w32_S128x512_w16 (ix2 p o)
      = 0x4300#16 + BitVec.ofNat 16 (code (wp (ix2 ⟨p.val / 2, by omega⟩ o)) (p.val % 2)) := by
  rw [bitcast_32_16]
  have e : ∀ (r : ℕ) (hr : r = p.val / 2) (hp), (bitcasts_S64x512_w32_S128x512_w16.srcIdx (ix2 p o) r hp : S64x512.Idx)
      = ix2 ⟨p.val / 2, by omega⟩ o := by
    intro r hr hp
    subst hr
    funext a
    apply Fin.ext
    match a with
    | ⟨0, _⟩ => rfl
    | ⟨1, _⟩ => rfl
  rw [e (S128x512.row (ix2 p o) / 2) rfl]
  exact half_word (wp (ix2 ⟨p.val / 2, by omega⟩ o)) ⟨p.val % 2, by omega⟩

theorem pay10_at (wp : IVec S64x512 8) (ws : FVec Ideal S1x512 .bf16) (a : FVec Ideal S128x8 .bf16)
    (b : FVec Ideal S8x512 .bf16) (p : Fin 128) (o : Fin 512) :
    k0_pay10 (F := Ideal) wp ws a b (ix2 p o)
      = q (wp (ix2 ⟨p.val / 2, by omega⟩ o)) (p.val % 2) * ws (ix2 0 o)
        + half * ∑ r : Fin 8, a (ix2 p r) * b (ix2 r o) := by
  have hq : Ideal.ofBits .bf16 (0x4300#16 + BitVec.ofNat 16 (code (wp (ix2 ⟨p.val / 2, by omega⟩ o)) (p.val % 2)))
      - Ideal.ofBits .bf16 0x4308#16 = q (wp (ix2 ⟨p.val / 2, by omega⟩ o)) (p.val % 2) := by
    rw [ofBits_code _ (code_lt _ ⟨p.val % 2, by omega⟩), show (0x4308#16 : BitVec 16) = 0x4300#16 + BitVec.ofNat 16 8 from rfl,
      ofBits_code 8 (by omega), ← EReal.coe_sub, q]
    congr 1
    push_cast
    ring
  have hx : Ideal.ofBits .bf16 (bitcast S128x512 16 (xori (andi (ori (extui 32 wp natLt_8_32) (shli (extui 32 wp natLt_8_32)
        (broadcast S64x512 12#32))) (broadcast S64x512 983055#32)) (broadcast S64x512 1124614920#32))
        bitcasts_S64x512_w32_S128x512_w16 (ix2 p o))
      - Ideal.ofBits .bf16 0x4308#16 = q (wp (ix2 ⟨p.val / 2, by omega⟩ o)) (p.val % 2) := by
    rw [unpack_at]; exact hq
  rw [← hx]
  pointwise [k0_pay10, half]

/-! ### The matrices of a point -/

theorem at_eq {α : Type} {R C : ℕ} (X : (M R C).Idx → α) {a a' : Fin R} {b b' : Fin C} (ha : a.val = a'.val) (hb : b.val = b'.val) :
    X (ix2 a b) = X (ix2 a' b') := by
  rw [Fin.ext ha, Fin.ext hb]

theorem vS_at (wp : IVec S1024x8192 8) (ws : FVec Ideal S16x8192 .bf16) (a : FVec Ideal S2048x8 .bf16)
    (b : FVec Ideal S8x8192 .bf16) (i : Fin 2048) (o : Fin 8192) :
    vS (F := Ideal) wp ws a b (ix2 i o)
      = q (wp (ix2 ⟨i.val / 2, by omega⟩ o)) (i.val % 2) * ws (ix2 ⟨i.val / 128, by omega⟩ o)
        + half * ∑ r : Fin 8, a (ix2 i r) * b (ix2 r o) := by
  have hi := Nat.div_add_mod i.val 128
  have ho := Nat.div_add_mod o.val 512
  refine Eq.trans (pay10_at _ _ _ _ ⟨i.val % 128, by omega⟩ ⟨o.val % 512, by omega⟩) ?_
  refine congrArg₂ (· + ·) (congrArg₂ (· * ·) (congrArg₂ q ?_ ?_) ?_) (congrArg (half * ·) (Finset.sum_congr rfl fun r _ =>
    congrArg₂ (· * ·) ?_ ?_))
  · exact at_eq wp (show 64 * (i.val / 128) + i.val % 128 / 2 = i.val / 2 by omega) ho
  · show i.val % 128 % 2 = i.val % 2
    omega
  · exact at_eq ws rfl ho
  · exact at_eq a hi (Nat.zero_add _)
  · exact at_eq b (Nat.zero_add _) ho

theorem cols_at {α : Type} {R C n : ℕ} (hC : C = 512 * n) (X : (M R C).Idx → α) (p : Fin R) (o : Fin C) (h1 h2) :
    cols hC X ⟨o.val / 512, h1⟩ (ix2 p ⟨o.val % 512, h2⟩) = X (ix2 p o) :=
  at_eq X (Nat.zero_add _) (Nat.div_add_mod o.val 512)

theorem dypS_at (dy : FVec Ideal S256x8192 .bf16) (g : FVec Ideal S1x8192 .f32) (p : Fin 256) (o : Fin 8192) :
    dypS (F := Ideal) dy g (ix2 p o) = dy (ix2 p o) * g (ix2 0 o) := by
  refine Eq.trans (pay38_at _ _ p ⟨o.val % 512, by omega⟩) ?_
  exact congrArg₂ (· * ·) (cols_at h16 dy p o _ _) (cols_at h16 g 0 o _ _)

theorem xtdS_at (xs : FVec Ideal S256x1 .f32) (x : FVec Ideal S256x2048 .fp8e4m3) (a : FVec Ideal S2048x8 .bf16)
    (dy : FVec Ideal S256x8192 .bf16) (g : FVec Ideal S1x8192 .f32) (old : FVec Ideal S8x8192 .f32) (r : Fin 8) (o : Fin 8192) :
    xtdS (F := Ideal) xs (k0_pay46 (F := Ideal) x) a dy g old (ix2 r o)
      = old (ix2 r o) + ∑ p : Fin 256, (∑ i : Fin 2048, x (ix2 p i) * a (ix2 i r)) * xs (ix2 p 0) * (dy (ix2 p o) * g (ix2 0 o)) := by
  refine Eq.trans (pay49_at _ _ _ _ _ r ⟨o.val % 512, by omega⟩) ?_
  refine congrArg₂ (· + ·) (cols_at h16 old r o _ _) (Finset.sum_congr rfl fun p _ => congrArg₂ (· * ·) ?_ ?_)
  · simp only [pay46_at]
  · refine Eq.trans (pay37_at _ _ p ⟨o.val % 512, by omega⟩) ?_
    exact congrArg₂ (· * ·) (cols_at h16 dy p o _ _) (cols_at h16 g 0 o _ _)

theorem dmaS_at (xs : FVec Ideal S256x1 .f32) (x : FVec Ideal S256x2048 .fp8e4m3) (dy : FVec Ideal S256x8192 .bf16)
    (v : FVec Ideal S2048x8192 .bf16) (old : FVec Ideal S1x8192 .f32) (o : Fin 8192) :
    dmaS (F := Ideal) xs (k0_pay46 (F := Ideal) x) dy v old (ix2 0 o)
      = old (ix2 0 o) + ∑ p : Fin 256, dy (ix2 p o) * ((∑ i : Fin 2048, x (ix2 p i) * v (ix2 i o)) * xs (ix2 p 0)) := by
  refine Eq.trans (pay39_at _ _ _ _ _ ⟨o.val % 512, by omega⟩) ?_
  refine congrArg₂ (· + ·) (cols_at h16 old 0 o _ _) (Finset.sum_congr rfl fun p _ => congrArg₂ (· * ·) (cols_at h16 dy p o _ _) ?_)
  rw [pay47_at]
  refine congrArg (· * _) (Finset.sum_congr rfl fun i _ => congrArg₂ (· * ·) (pay46_at x p i) (cols_at h16 v i o _ _))

theorem dxS_at (d : FVec Ideal S256x8192 .bf16) (v : FVec Ideal S2048x8192 .bf16) (p : Fin 256) (i : Fin 2048) :
    dxS (F := Ideal) d v (ix2 p i) = ∑ o : Fin 8192, d (ix2 p o) * v (ix2 i o) := by
  refine Eq.trans (pay2_at _ _ p ⟨i.val % 512, by omega⟩) ?_
  exact Finset.sum_congr rfl fun o _ => congrArg (d (ix2 p o) * ·)
    (at_eq v (Nat.div_add_mod i.val 512) (Nat.zero_add _))

theorem dbS_at (v : FVec Ideal S2048x8192 .bf16) (g : FVec Ideal S1x8192 .f32) (a : FVec Ideal S2048x8 .bf16)
    (x : FVec Ideal S8x8192 .f32) (r : Fin 8) (o : Fin 8192) :
    dbS (F := Ideal) v g a x (ix2 r o)
      = half * (x (ix2 r o) - ∑ i : Fin 2048, a (ix2 i r) * (v (ix2 i o) * g (ix2 0 o))) := by
  refine Eq.trans (pay7_at _ _ _ _ r ⟨o.val % 512, by omega⟩) ?_
  refine congrArg (half * ·) (congrArg₂ (· - ·) (cols_at h16 x r o _ _) (Finset.sum_congr rfl fun i _ => congrArg (a (ix2 i r) * ·) ?_))
  exact congrArg₂ (· * ·) (cols_at h16 v i o _ _) (cols_at h16 g 0 o _ _)

/-- Column `512 k + c`. -/
def col (k : Fin 16) (c : Fin 512) : Fin 8192 := ⟨512 * k.val + c.val, by omega⟩

/-- A sum over the columns, chunk by chunk. -/
theorem sum_col (f : Fin 8192 → EReal) : ∑ k : Fin 16, ∑ c : Fin 512, f (col k c) = ∑ o : Fin 8192, f o := by
  rw [← Fintype.sum_prod_type']
  refine Fintype.sum_equiv (finProdFinEquiv (m := 16) (n := 512)) _ _ fun x => congrArg f (Fin.ext ?_)
  exact Nat.add_comm _ _

theorem cols_col {α : Type} {R : ℕ} (X : (M R 8192).Idx → α) (k : Fin 16) (p : Fin R) (c : Fin 512) :
    cols h16 X k (ix2 p c) = X (ix2 p (col k c)) :=
  at_eq X (Nat.zero_add _) rfl

/-- The rank-eight projection of a point's scaled cotangent. -/
theorem hRec_at (dy : FVec Ideal S256x8192 .bf16) (g : FVec Ideal S1x8192 .f32) (b : FVec Ideal S8x8192 .bf16)
    (h0 : FVec Ideal S256x8 .f32) (p : Fin 256) (r : Fin 8) :
    hRec (F := Ideal) dy g b h0 16 (ix2 p r) = h0 (ix2 p r) + ∑ o : Fin 8192, dy (ix2 p o) * g (ix2 0 o) * b (ix2 r o) := by
  have key : ∀ n (hn : n ≤ 16), hRec (F := Ideal) dy g b h0 n (ix2 p r)
      = h0 (ix2 p r) + ∑ k : Fin n, ∑ c : Fin 512, dy (ix2 p (col (k.castLE hn) c)) * g (ix2 0 (col (k.castLE hn) c))
          * b (ix2 r (col (k.castLE hn) c)) := by
    intro n
    induction n with
    | zero => intro _; rw [Fin.sum_univ_zero, add_zero]; rfl
    | succ n ih =>
      intro hn
      rw [hRec, dif_pos (by omega : n < 16), pay40_at, ih (by omega), Fin.sum_univ_castSucc (n := n), add_assoc]
      simp only [cols_col]
      rfl
  rw [key 16 le_rfl, ← sum_col]
  rfl

/-- The first adapter's accumulator less the corrections of all the chunks, taken one after the other. -/
theorem xthRec_at (v : FVec Ideal S2048x8192 .bf16) (g : FVec Ideal S1x8192 .f32) (b : FVec Ideal S8x8192 .bf16)
    (x0 : FVec Ideal S2048x8 .f32) (i : Fin 2048) (r : Fin 8)
    (hf : ∀ o, IsReal (v (ix2 i o) * g (ix2 0 o) * b (ix2 r o))) :
    xthRec (F := Ideal) v g b x0 16 (ix2 i r) = x0 (ix2 i r) - ∑ o : Fin 8192, v (ix2 i o) * g (ix2 0 o) * b (ix2 r o) := by
  have key : ∀ n (hn : n ≤ 16), xthRec (F := Ideal) v g b x0 n (ix2 i r)
      = x0 (ix2 i r) - ∑ k : Fin n, ∑ c : Fin 512, v (ix2 i (col (k.castLE hn) c)) * g (ix2 0 (col (k.castLE hn) c))
          * b (ix2 r (col (k.castLE hn) c)) := by
    intro n
    induction n with
    | zero => intro _; rw [Fin.sum_univ_zero, sub_zero]; rfl
    | succ n ih =>
      intro hn
      rw [xthRec, dif_pos (by omega : n < 16), pay8_at, ih (by omega), Fin.sum_univ_castSucc (n := n)]
      simp only [cols_col]
      rw [sub_sub_real (IsReal.sum _ _ fun k => IsReal.sum _ _ fun c => hf _) (IsReal.sum _ _ fun c => hf _)]
      rfl
  rw [key 16 le_rfl, ← sum_col]
  rfl

end Cert.KernelIdeal.Gen
-- ==== Proof.KernelValue.lean ====
/-
  What the kernel computes, over the extended reals: the sums it accumulates from point to point are the sums over all tokens,
  and what it stores is the mathematics of the arguments.
-/
module

public import proofs.«01_k».proof.Proof.Blocks
public import proofs.«01_k».proof.Proof.Pay

@[expose] public section

set_option maxRecDepth 16384
noncomputable section

namespace Cert.KernelIdeal.Gen

open Idealize.ShloMosaic Idealize.ShloMosaic.TcCoe Cert.Tiles
open scoped BigOperators

variable (m : (ℓ : Loc nD τ sig) → Buf (Elt Ideal) ℓ) (c : Dev nD)

theorem vI_at (i : Fin 2048) (o : Fin 8192) : vI m c (ix2 i o) = (ins m c).v i o := by
  refine (vS_at _ _ _ _ i o).trans ?_
  rw [Ins.v, blk3_at, blk4_at]
  simp only [blk5_at, blk6_at]

theorem gI_at (o : Fin 8192) : gI m c (ix2 0 o) = (ins m c).gain o := by
  rw [gI, pay41_at, blk7_at, blk8_at, Ins.gain]

/-- The point that is given the number `n`. -/
abbrev pn (n : Fin 48) : Fin cfg0.N := Fin.cast N_eq.symm n

/-- The magnitudes' accumulator after the last point: the sum over all tokens. -/
theorem S21_at (o : Fin 8192) : S21 m c 48 (ix2 0 o) = ∑ t : Token, (ins m c).dmTerm t o := by
  rw [← sum_tok]
  refine sum_of_steps (fun n => S21 m c n (ix2 0 o)) _ (pay42_at _) fun n => ?_
  show S21 m c ((pn n).val + 1) (ix2 0 o) = _
  rw [S21_succ]
  refine (dmaS_at _ _ _ _ _ o).trans (congrArg (_ + ·) (Finset.sum_congr rfl fun p _ => ?_))
  rw [blk0_at, blk2_at, Ins.dmTerm]
  simp only [blk1_at, vI_at]
  rfl

/-- The second adapter matrix's. -/
theorem S20_at (r : Fin 8) (o : Fin 8192) : S20 m c 48 (ix2 r o)
    = ∑ t : Token, (∑ i : Fin 2048, (ins m c).x t i * (ins m c).a i r) * (ins m c).xs t * (ins m c).dyp t o := by
  rw [← sum_tok]
  refine sum_of_steps (fun n => S20 m c n (ix2 r o)) _ (pay44_at _) fun n => ?_
  show S20 m c ((pn n).val + 1) (ix2 r o) = _
  rw [S20_succ]
  refine (xtdS_at _ _ _ _ _ _ r o).trans (congrArg (_ + ·) (Finset.sum_congr rfl fun p _ => ?_))
  rw [blk0_at, blk2_at, gI_at, Ins.dyp]
  simp only [blk1_at, blk5_at]
  rfl

/-- The first adapter matrix's. -/
theorem S19_at (i : Fin 2048) (r : Fin 8) : S19 m c 48 (ix2 i r)
    = ∑ t : Token, (ins m c).x t i * (ins m c).xs t * ∑ o : Fin 8192, (ins m c).dyp t o * (ins m c).b r o := by
  rw [← sum_tok]
  refine sum_of_steps (fun n => S19 m c n (ix2 i r)) _ (pay43_at _) fun n => ?_
  show S19 m c ((pn n).val + 1) (ix2 i r) = _
  rw [S19_succ]
  refine (pay1_at _ _ _ i r).trans (congrArg (_ + ·) (Finset.sum_congr rfl fun p _ => ?_))
  rw [pay50_at, pay46_at, pay51_at, hRec_at, pay48_at, zero_add, blk1_at, blk2_at]
  simp only [blk0_at, gI_at, blk6_at]
  rfl

/-- A point's block of the input's cotangent. -/
theorem O9_at (t : Fin cfg0.N) (p : Fin 256) (i : Fin 2048) : O9 m c t (ix2 p i) = (ins m c).dx (tok (pt t) p) i := by
  refine (dxS_at _ _ p i).trans (Finset.sum_congr rfl fun o _ => ?_)
  rw [dypS_at, blk0_at, gI_at, vI_at, Ins.dyp]

/-- The magnitudes' cotangent. -/
theorem O12_at (o : Fin 8192) : O12 m c (ix2 0 o) = (ins m c).dm o := by
  rw [O12, pay4_at, S21_at, blk8_at, Ins.dm]

theorem gL_at (o : Fin 8192) : gL m c (ix2 0 o) = (ins m c).cc o := by
  rw [gL, pay5_at, S21_at, blk8_at, blk7_at, Ins.cc, Ins.dm]

/-- The second adapter matrix's cotangent. -/
theorem O11_at (r : Fin 8) (o : Fin 8192) : O11 m c (ix2 r o) = (ins m c).db r o := by
  refine (dbS_at _ _ _ _ r o).trans ?_
  rw [S20_at, gL_at, Ins.db]
  simp only [blk5_at, vI_at]

/-- The first adapter matrix's cotangent, where what is taken off it is finite. -/
theorem O10_at (hf : (ins m c).WeightsFinite) (hd : ∀ o, IsReal ((ins m c).dm o)) (i : Fin 2048) (r : Fin 8) :
    O10 m c (ix2 i r) = (ins m c).da i r := by
  refine (pay9_at _ i r).trans ?_
  rw [xthRec_at _ _ _ _ i r fun o => by rw [vI_at, gL_at, blk6_at]; exact hf.corr hd i r o, S19_at, Ins.da]
  simp only [vI_at, gL_at, blk6_at]

end Cert.KernelIdeal.Gen
-- ==== Proof.Guard.lean ====
/-
  The last result of the kernel's and of the reference's program: the first adapter matrix's cotangent where every element of
  the magnitudes' cotangent is finite, and zero elsewhere.
-/
module

public import proofs.«01_k».proof.Proof.Finite
public import Idealize.ShloMosaic.Lib.ReduceAll
public import Idealize.ShloMosaic.Lib.StableHlo

@[expose] public section

set_option maxRecDepth 16384
noncomputable section

namespace Cert

open Idealize.ShloMosaic

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

/-- A number whose absolute value the comparison finds below infinity is finite. -/
theorem real_of_abs_lt {x y : EReal} (hy : y = ⊤) (h : Ideal.cmp .olt (max x (-x)) y = 1#1) : IsReal x := by
  subst hy
  have hlt : max x (-x) < ⊤ := by
    by_contra hn
    have e : Ideal.cmp .olt (max x (-x)) ⊤ = 0#1 := by
      unfold Ideal.cmp
      simp only [hn, decide_false]
      rfl
    rw [e] at h
    exact absurd h (by decide)
  rw [max_lt_iff] at hlt
  exact IsReal.of_ne hlt.1.ne fun hb => hlt.2.ne (by rw [hb]; rfl)

abbrev Vec0 : Shape := ⟨0, ![]⟩
abbrev VecO : Shape := ⟨1, ![8192]⟩
abbrev MatA : Shape := ⟨2, ![2048, 8]⟩

variable (hb : Vec0.BroadcastsInDim VecO (![] : Fin 0 → Fin VecO.rank)) (hr : VecO.ReducesTo [0] Vec0) (h0 : 0 < Vec0.numel)
  (hm : Vec0.BroadcastsInDim MatA (![] : Fin 0 → Fin MatA.rank))

/-- Whether every element is finite. -/
def allFinite (dm : FVec Ideal VecO .f32) : IVec Vec0 1 :=
  Host.reduce IntOp.andi (cmpf .olt (Host.absf dm) (broadcastInDim VecO ![] hb (constant Vec0 .f32 0x7F800000#32))) (constantI Vec0 1 1#1) hr h0

/-- The cotangent `da` where every element of `dm` is finite, else zero. -/
def guarded (dm : FVec Ideal VecO .f32) (da : FVec Ideal MatA .bf16) : FVec Ideal MatA .bf16 :=
  select (broadcastInDim MatA ![] hm (allFinite hb hr h0 dm)) da (broadcastInDim MatA ![] hm (constant Vec0 .bf16 0x0000#16))

instance : Subsingleton Vec0.Idx := ⟨fun a b => funext fun i => i.elim0⟩

/-- A conjunction over all elements, read at one of them, for any shapes. -/
theorem real_of_reduce {s t : Shape} {axes : List (Fin s.rank)} [Subsingleton t.Idx] (x : FVec Ideal s .f32) (y : FVec Ideal s .f32) (hy : ∀ i, y i = (⊤ : EReal))
    (init : IVec t 1) (hr : s.ReducesTo axes t) (h0 : 0 < t.numel) (j : t.Idx) (h : Host.reduce IntOp.andi (cmpf .olt (Host.absf x) y) init hr h0 j = 1#1)
    (i : s.Idx) : IsReal (x i) := by
  have e := Host.reduce_andi_all _ init hr h0 j h i
  exact real_of_abs_lt (x := x i) (y := y i) (hy i) e

theorem bcast_const {s t : Shape} (dims : Fin s.rank → Fin t.rank) (hb : s.BroadcastsInDim t dims) (v : BitVec 32) (i : t.Idx) :
    broadcastInDim t dims hb (constant (F := Ideal) s .f32 v) i = Ideal.ofBits .f32 v := rfl

theorem real_of_allFinite (dm : FVec Ideal VecO .f32) (j : Vec0.Idx) (h : allFinite hb hr h0 dm j = 1#1) (o : VecO.Idx) : IsReal (dm o) := by
  unfold allFinite at h
  exact real_of_reduce dm _ (fun i => (bcast_const _ hb _ i).trans inf_f32) _ hr h0 j h o

theorem select_of_zero {s : Shape} (b : IVec s 1) (x y : FVec Ideal s .bf16) (i : s.Idx) (h : ¬ b i = 1) : select b x y i = y i := if_neg h

theorem bcast_bit {s t : Shape} (dims : Fin s.rank → Fin t.rank) (hb : s.BroadcastsInDim t dims) (b : IVec s 1) (h : ∀ j, ¬ b j = 1) (i : t.Idx) :
    ¬ broadcastInDim t dims hb b i = 1 := h _

/-- The guarded cotangent is zero where `dm` is not finite. -/
theorem guarded_zero (dm : FVec Ideal VecO .f32) (da : FVec Ideal MatA .bf16) (hf : ¬ ∀ o, IsReal (dm o)) :
    guarded hb hr h0 hm dm da = broadcastInDim MatA ![] hm (constant Vec0 .bf16 0x0000#16) := by
  funext i
  have hne : ∀ j, ¬ allFinite hb hr h0 dm j = 1 := fun j e => hf (real_of_allFinite hb hr h0 dm j e)
  unfold guarded
  exact select_of_zero _ _ _ i (bcast_bit _ hm (allFinite hb hr h0 dm) hne i)

/-- Two guarded cotangents are the same if, as soon as one guard finds its numbers finite, the guards' numbers and the
    cotangents are the same. -/
theorem guarded_congr (dm dm' : FVec Ideal VecO .f32) (da da' : FVec Ideal MatA .bf16)
    (h : (∀ o, IsReal (dm o)) ∨ (∀ o, IsReal (dm' o)) → dm = dm' ∧ da = da') :
    guarded hb hr h0 hm dm da = guarded hb hr h0 hm dm' da' := by
  by_cases hf : (∀ o, IsReal (dm o)) ∨ (∀ o, IsReal (dm' o))
  · obtain ⟨rfl, rfl⟩ := h hf; rfl
  · rw [not_or] at hf
    rw [guarded_zero hb hr h0 hm dm da hf.1, guarded_zero hb hr h0 hm dm' da' hf.2]

end Cert
-- ==== Proof.KernelRun.lean ====
/-
  What the kernel's program leaves in its results, over the extended reals.
-/
module

public import proofs.«01_k».proof.Proof.KernelValue
public import proofs.«01_k».proof.Proof.Launch
public import proofs.«01_k».proof.Proof.Guard
public import Idealize.ShloMosaic.Lib.Pipeline.Value

@[expose] public section

set_option maxRecDepth 16384
noncomputable section

namespace Cert.KernelIdeal.Gen

open Idealize.ShloMosaic Idealize.ShloMosaic.TcCoe Idealize.SL.Sem Cert.Tiles
open Idealize.ShloMosaic.Pipeline (Dat)

variable (m : (ℓ : Loc nD τ sig) → Buf (Elt Ideal) ℓ) (ρ : Dev nD → PrngReg) (c : Dev nD)

/-! ### The pipeline's output arrays -/

/-- Row `n` of the arrays in which the sequences follow one another, as a token. -/
def rowTok (n : Fin 12288) : Token := (⟨n.val / 512, by omega⟩, ⟨n.val % 512, by omega⟩)

/-- The input's cotangent, one row per token. -/
def dxRows : FVec Ideal S12288x2048 .bf16 := fun j => (ins m c).dx (rowTok (j 0)) (j 1)

theorem index_out : ∀ t : Fin cfg0.N, win0_9.index t 0 = t.val ∧ win0_9.index t 1 = 0 :=
  (by decide : ∀ t : Fin grid0.N, win0_9.index t 0 = t.val ∧ win0_9.index t 1 = 0)

theorem flushed9 (t : Fin cfg0.N) (hf : (cfg0.win 9).flush t = true) :
    (dats m 0 c).flushed 9 t = ((cfg0.win 9).blk t).view.read (Elt Ideal) (dxRows m c) := by
  have ht := lt_N t
  show O9 m c t = _
  funext (j : S256x2048.Idx)
  obtain ⟨p, i, rfl⟩ : ∃ p i, j = ix2 p i := ⟨j 0, j 1, eq_ix2 j⟩
  refine (O9_at m c t p i).trans ?_
  rw [View.read_apply]
  show dxRows m c (ix2 (⟨256 * t.val + p.val, by omega⟩ : Fin 12288) i) = dxRows m c _
  refine congrArg (dxRows m c) ?_
  funext a
  apply Fin.ext
  match a with
  | ⟨0, _⟩ => show 256 * t.val + p.val = win0_9.index t 0 * 256 + 1 * p.val; rw [(index_out t).1]; omega
  | ⟨1, _⟩ => show i.val = win0_9.index t 1 * 2048 + 1 * i.val; rw [(index_out t).2]; omega

theorem final9 : (dats m 0 c).arrAt 9 cfg0.N = dxRows m c :=
  (dats m 0 c).arrAt_eq_of_cover 9 (dxRows m c) (flushed9 m c) fun (i : S12288x2048.Idx) => by
    have h0 : (i 0).val < 12288 := (i 0).isLt
    have h1 : (i 1).val < 2048 := (i 1).isLt
    refine ⟨⟨(i 0).val / 256, by rw [N_eq]; omega⟩, flush0_9 _, ?_⟩
    generalize ht : (⟨(i 0).val / 256, _⟩ : Fin cfg0.N) = t
    have ht' : t.val = (i 0).val / 256 := by rw [← ht]
    show i ∈ ((View.whole main_v5_0).slice (win0_9.rect t)).set
    rw [View.set_slice_whole, Rect.mem_set_unit]
    intro a
    match a with
    | ⟨0, _⟩ => show win0_9.index t 0 * 256 ≤ (i 0).val ∧ (i 0).val < win0_9.index t 0 * 256 + 256; rw [(index_out t).1]; omega
    | ⟨1, _⟩ => show win0_9.index t 1 * 2048 ≤ (i 1).val ∧ (i 1).val < win0_9.index t 1 * 2048 + 2048; rw [(index_out t).2]; omega

/-- The last point. -/
def tl : Fin cfg0.N := ⟨47, by rw [N_eq]; decide⟩

/-- Of a window whose one block is its whole array and is written back after the last point, the array ends at what the body left. -/
theorem final10 : (dats m 0 c).arrAt 10 cfg0.N = O10 m c :=
  (dats m 0 c).arrAt_eq_of_cover 10 (O10 m c) (fun t hf => by
    show O10 m c = _
    funext (j : S2048x8.Idx)
    rw [View.read_apply]
    refine congrArg (O10 m c) ?_
    funext a
    apply Fin.ext
    match a with
    | ⟨0, _⟩ => show (j 0).val = 0 * 2048 + 1 * (j 0).val; omega
    | ⟨1, _⟩ => show (j 1).val = 0 * 8 + 1 * (j 1).val; omega) fun (i : S2048x8.Idx) => by
    have h0 : (i 0).val < 2048 := (i 0).isLt
    have h1 : (i 1).val < 8 := (i 1).isLt
    refine ⟨tl, (flush0_10 tl).mpr rfl, ?_⟩
    show i ∈ ((View.whole main_v5_1).slice (win0_10.rect tl)).set
    rw [View.set_slice_whole, Rect.mem_set_unit]
    intro a
    match a with
    | ⟨0, _⟩ => show 0 * 2048 ≤ (i 0).val ∧ (i 0).val < 0 * 2048 + 2048; omega
    | ⟨1, _⟩ => show 0 * 8 ≤ (i 1).val ∧ (i 1).val < 0 * 8 + 8; omega

theorem final11 : (dats m 0 c).arrAt 11 cfg0.N = O11 m c :=
  (dats m 0 c).arrAt_eq_of_cover 11 (O11 m c) (fun t hf => by
    show O11 m c = _
    funext (j : S8x8192.Idx)
    rw [View.read_apply]
    refine congrArg (O11 m c) ?_
    funext a
    apply Fin.ext
    match a with
    | ⟨0, _⟩ => show (j 0).val = 0 * 8 + 1 * (j 0).val; omega
    | ⟨1, _⟩ => show (j 1).val = 0 * 8192 + 1 * (j 1).val; omega) fun (i : S8x8192.Idx) => by
    have h0 : (i 0).val < 8 := (i 0).isLt
    have h1 : (i 1).val < 8192 := (i 1).isLt
    refine ⟨tl, (flush0_11 tl).mpr rfl, ?_⟩
    show i ∈ ((View.whole main_v5_2).slice (win0_11.rect tl)).set
    rw [View.set_slice_whole, Rect.mem_set_unit]
    intro a
    match a with
    | ⟨0, _⟩ => show 0 * 8 ≤ (i 0).val ∧ (i 0).val < 0 * 8 + 8; omega
    | ⟨1, _⟩ => show 0 * 8192 ≤ (i 1).val ∧ (i 1).val < 0 * 8192 + 8192; omega

theorem final12 : (dats m 0 c).arrAt 12 cfg0.N = O12 m c :=
  (dats m 0 c).arrAt_eq_of_cover 12 (O12 m c) (fun t hf => by
    show O12 m c = _
    funext (j : S1x8192.Idx)
    rw [View.read_apply]
    refine congrArg (O12 m c) ?_
    funext a
    apply Fin.ext
    match a with
    | ⟨0, _⟩ => show (j 0).val = 0 * 1 + 1 * (j 0).val; omega
    | ⟨1, _⟩ => show (j 1).val = 0 * 8192 + 1 * (j 1).val; omega) fun (i : S1x8192.Idx) => by
    have h0 : (i 0).val < 1 := (i 0).isLt
    have h1 : (i 1).val < 8192 := (i 1).isLt
    refine ⟨tl, (flush0_12 tl).mpr rfl, ?_⟩
    show i ∈ ((View.whole main_v5_3).slice (win0_12.rect tl)).set
    rw [View.set_slice_whole, Rect.mem_set_unit]
    intro a
    match a with
    | ⟨0, _⟩ => show 0 * 1 ≤ (i 0).val ∧ (i 0).val < 0 * 1 + 1; omega
    | ⟨1, _⟩ => show 0 * 8192 ≤ (i 1).val ∧ (i 1).val < 0 * 8192 + 8192; omega

/-! ### What the host makes of them -/

/-- The windows' arrays are distinct buffers. -/
theorem arr_inj : Function.Injective (Pipeline.arrRef spec0) := by decide

theorem after_main_v6 (s : Fin 24) (p : Fin 512) (i : Fin 2048) :
    (Pipeline.afterTail₀ cfgs (dats m) 0 (V0 m) [hostOps1] c main_v6 : FVec Ideal S24x512x2048 .bf16) (ix3 s p i) = (ins m c).dx (s, p) i := by
  unfold Pipeline.afterTail₀
  after_reads_at
  refine (congrFun (Pipeline.withArrays_arr spec0 arr_inj c (V0 m c) (fun w => (dats m 0 c).arrAt w cfg0.N) 9) _).trans ?_
  rw [final9]
  refine congrArg (fun t => (ins m c).dx t i) (Prod.ext (Fin.ext ?_) (Fin.ext ?_))
  · show (s.val * 512 + p.val) / 512 = s.val; omega
  · show (s.val * 512 + p.val) % 512 = p.val; omega

theorem after_main_v7 (o : Fin 8192) :
    (Pipeline.afterTail₀ cfgs (dats m) 0 (V0 m) [hostOps1] c main_v7 : FVec Ideal S8192 .f32) (ix1 o) = (ins m c).dm o := by
  unfold Pipeline.afterTail₀
  after_reads_at
  refine (congrFun (Pipeline.withArrays_arr spec0 arr_inj c (V0 m c) (fun w => (dats m 0 c).arrAt w cfg0.N) 12) _).trans ?_
  rw [final12]
  exact O12_at m c o

/-- The input's cotangent, as the kernel returns it. -/
def resDx : FVec Ideal S24x512x2048 .bf16 := fun j => (ins m c).dx (j 0, j 1) (j 2)
/-- The cotangent of the low-rank factor `lora_b`. -/
def resDb : FVec Ideal S8x8192 .bf16 := fun j => (ins m c).db (j 0) (j 1)
/-- The cotangent of the magnitudes. -/
def resDm : FVec Ideal S8192 .f32 := fun j => (ins m c).dm (j 0)

theorem afterV7 : Pipeline.afterTail₀ cfgs (dats m) 0 (V0 m) [hostOps1] c main_v7 = resDm m c := by
  funext (j : S8192.Idx)
  obtain ⟨o, rfl⟩ : ∃ o, j = ix1 o := ⟨j 0, eq_ix1 j⟩
  exact after_main_v7 m c o

/-- The guarded cotangent of `lora_a`, as the host makes it. -/
theorem after_main_v14 : Pipeline.afterTail₀ cfgs (dats m) 0 (V0 m) [hostOps1] c main_v14
    = guarded bcast_S_S8192 reducesTo_S8192_S_d0 h_S_ bcast_S_S2048x8 (resDm m c) (O10 m c) := by
  rw [← afterV7, ← final10]
  unfold Pipeline.afterTail₀
  after_reads_simp
  unfold guarded allFinite
  refine congrArg (fun d : FVec Ideal S2048x8 .bf16 => select _ d _) ?_
  exact Pipeline.withArrays_arr spec0 arr_inj c (V0 m c) (fun w => (dats m 0 c).arrAt w cfg0.N) 10

/-! ## Every run -/

/-- Every run ends with three of the kernel's results at the sums the mathematics names, and with the guarded cotangent of
    `lora_a` at what the guard makes of the pipeline's. -/
theorem values : θ_run defs (onTc (τ := τ) (main (F := Ideal))) ⟨m, fun _ => 0, ρ⟩ (fun r => ∀ c : Dev nD,
      r.2.mem ((c.tc : Thread nD τ).loc main_v6) = resDx m c
      ∧ r.2.mem ((c.tc : Thread nD τ).loc main_v5_2) = resDb m c
      ∧ r.2.mem ((c.tc : Thread nD τ).loc main_v7) = resDm m c
      ∧ r.2.mem ((c.tc : Thread nD τ).loc main_v14)
          = guarded bcast_S_S8192 reducesTo_S8192_S_d0 h_S_ bcast_S_S2048x8 (resDm m c) (O10 m c)) :=
  (θ_run defs _ _).mono (fun r h c => by
    refine ⟨?_, ?_, ?_, ?_⟩
    · refine ((h c).2 main_v6 (Pipeline.mem_restRefs_of main_v6 (by decide) (by decide))).trans ?_
      funext (j : S24x512x2048.Idx)
      obtain ⟨s, p, i, rfl⟩ : ∃ s p i, j = ix3 s p i := ⟨j 0, j 1, j 2, eq_ix3 j⟩
      exact after_main_v6 m c s p i
    · refine ((h c).1 11).trans ?_
      refine (final11 m c).trans ?_
      funext (j : S8x8192.Idx)
      obtain ⟨p, i, rfl⟩ : ∃ p i, j = ix2 p i := ⟨j 0, j 1, eq_ix2 j⟩
      exact O11_at m c p i
    · exact ((h c).2 main_v7 (Pipeline.mem_restRefs_of main_v7 (by decide) (by decide))).trans (afterV7 m c)
    · exact ((h c).2 main_v14 (Pipeline.mem_restRefs_of main_v14 (by decide) (by decide))).trans (after_main_v14 m c)) (run_main m ρ)

end Cert.KernelIdeal.Gen
-- ==== Proof.RefPay.lean ====
/-
  The reference's stores read at one element, over the extended reals.
-/
module

public import proofs.«01_k».proof.Proof.Gen.ReferenceIdeal.Frame
public import proofs.«01_k».proof.Proof.Math
public import Idealize.ShloMosaic.Lib.Pointwise

@[expose] public section

set_option maxRecDepth 16384
noncomputable section

namespace Cert.ReferenceIdeal.Gen

open Idealize.ShloMosaic Idealize.ShloMosaic.TcCoe
open scoped BigOperators

/-- A reduction over the first two axes is a sum over the tokens. -/
theorem sum_tokens (h : S24x512x8192.Reduces [0, 1] S8192) (v : S24x512x8192.Idx → EReal) (o : Fin 8192) :
    Ideal.reduceAdd h v (ix1 o) = ∑ t : Token, v (ix3 t.1 t.2 o) := by
  have hd : ∀ s p o', h.drop (ix3 s p o') = ix1 o' := fun s p o' => by
    funext b
    match b with
    | ⟨0, _⟩ => rfl
  refine Finset.sum_filter_eq_sum_of_fiber _ (fun t : Token => ix3 t.1 t.2 o) (fun _ _ e => Prod.ext (congrFun e 0) (congrFun e 1)) ?_ v
  intro i
  obtain ⟨s, p, o', rfl⟩ : ∃ s p o', i = ix3 s p o' := ⟨i 0, i 1, i 2, eq_ix3 i⟩
  rw [hd]
  constructor
  · intro e; exact ⟨(s, p), by rw [show o' = o from congrFun e 0]⟩
  · rintro ⟨t, e⟩; rw [show o' = o from (congrFun e 2).symm]

/-- The code of a row, as the reference takes it out of the packed bytes. -/
theorem code_word (b : BitVec 8) (e : Fin 2) :
    (IntOp.subi (IntOp.xori (if h : e.val < 1 then IntOp.andi (BitVec.setWidth 32 b) 15#32
      else IntOp.shrsi ArithUnit.vector (BitVec.setWidth 32 b) 4#32) 8#32) 8#32).toInt = (code b e.val : ℤ) - 8 := by
  revert b e; decide +kernel

theorem pay4_at (mg cn : FVec Ideal S8192 .f32) (dy : FVec Ideal S24x512x8192 .bf16) (s : Fin 24) (p : Fin 512) (o : Fin 8192) :
    k0_pay4 (F := Ideal) (k0_pay2 (F := Ideal) mg cn) (k0_pay3 (F := Ideal) dy) (ix3 s p o) = dy (ix3 s p o) * Ideal.div (mg (ix1 o)) (cn (ix1 o)) := by
  pointwise [k0_pay4, k0_pay3, k0_pay2]

theorem pay5_at (v : FVec Ideal S2048x8192 .bf16) (g : FVec Ideal S8192 .f32) (dy : FVec Ideal S24x512x8192 .f32) (s : Fin 24) (p : Fin 512) (i : Fin 2048) :
    k0_pay5 (F := Ideal) v g dy (ix3 s p i) = ∑ o : Fin 8192, k0_pay4 (F := Ideal) g dy (ix3 s p o) * v (ix2 i o) := by
  pointwise [k0_pay5]

theorem pay7_at (dy : FVec Ideal S24x512x8192 .bf16) (x : FVec Ideal S24x512x2048 .fp8e4m3) (xs : FVec Ideal S24x512 .f32)
    (cn : FVec Ideal S8192 .f32) (v : FVec Ideal S2048x8192 .bf16) (o : Fin 8192) :
    k0_pay7 (F := Ideal) dy x xs cn v (ix1 o)
      = ∑ t : Token, Ideal.div (dy (ix3 t.1 t.2 o) * ((∑ i : Fin 2048, x (ix3 t.1 t.2 i) * v (ix2 i o)) * xs (ix2 t.1 t.2))) (cn (ix1 o)) := by
  refine (sum_tokens reduces_S24x512x8192_S8192 _ o).trans (Finset.sum_congr rfl fun t _ => ?_)
  obtain ⟨s, p⟩ := t
  pointwise [k0_pay6]

theorem pay8_at (dy : FVec Ideal S24x512x8192 .bf16) (x : FVec Ideal S24x512x2048 .fp8e4m3) (xs : FVec Ideal S24x512 .f32)
    (mg cn : FVec Ideal S8192 .f32) (v : FVec Ideal S2048x8192 .bf16) (i : Fin 2048) (o : Fin 8192) :
    k0_pay8 (F := Ideal) dy x xs mg cn v (ix2 i o)
      = v (ix2 i o) * Ideal.div (k0_pay7 (F := Ideal) dy x xs cn v (ix1 o) * mg (ix1 o)) (cn (ix1 o) * cn (ix1 o)) := by
  pointwise [k0_pay8]

theorem pay10_at (dy : FVec Ideal S24x512x8192 .bf16) (x : FVec Ideal S24x512x2048 .fp8e4m3) (xs : FVec Ideal S24x512 .f32)
    (a : FVec Ideal S2048x8 .bf16) (mg cn : FVec Ideal S8192 .f32) (v : FVec Ideal S2048x8192 .bf16)
    (g : FVec Ideal S8192 .f32) (d : FVec Ideal S24x512x8192 .f32) (r : Fin 8) (o : Fin 8192) :
    k0_pay10 (F := Ideal) dy x xs a mg cn v g d (ix2 r o)
      = half * ((∑ t : Token, (∑ i : Fin 2048, x (ix3 t.1 t.2 i) * a (ix2 i r)) * xs (ix2 t.1 t.2) * k0_pay4 (F := Ideal) g d (ix3 t.1 t.2 o))
        - ∑ i : Fin 2048, a (ix2 i r) * k0_pay8 (F := Ideal) dy x xs mg cn v (ix2 i o)) := by
  rw [Fintype.sum_prod_type]
  pointwise [k0_pay10, k0_pay6, half]

theorem pay9_at (dy : FVec Ideal S24x512x8192 .bf16) (x : FVec Ideal S24x512x2048 .fp8e4m3) (xs : FVec Ideal S24x512 .f32)
    (b : FVec Ideal S8x8192 .bf16) (mg cn : FVec Ideal S8192 .f32) (v : FVec Ideal S2048x8192 .bf16)
    (g : FVec Ideal S8192 .f32) (d : FVec Ideal S24x512x8192 .f32) (i : Fin 2048) (r : Fin 8) :
    k0_pay9 (F := Ideal) dy x xs b mg cn v g d (ix2 i r)
      = half * ((∑ t : Token, x (ix3 t.1 t.2 i) * xs (ix2 t.1 t.2) * ∑ o : Fin 8192, k0_pay4 (F := Ideal) g d (ix3 t.1 t.2 o) * b (ix2 r o))
        - ∑ o : Fin 8192, k0_pay8 (F := Ideal) dy x xs mg cn v (ix2 i o) * b (ix2 r o)) := by
  rw [Fintype.sum_prod_type]
  pointwise [k0_pay9, k0_pay6, half]

theorem pay1_at (wp : IVec S1024x8192 8) (ws : FVec Ideal S16x8192 .bf16) (a : FVec Ideal S2048x8 .bf16)
    (b : FVec Ideal S8x8192 .bf16) (i : Fin 2048) (o : Fin 8192) :
    k0_pay1 (F := Ideal) wp ws a b (ix2 i o)
      = q (wp (ix2 ⟨i.val / 2, by omega⟩ o)) (i.val % 2) * ws (ix2 ⟨i.val / 128, by omega⟩ o)
        + half * ∑ r : Fin 8, a (ix2 i r) * b (ix2 r o) := by
  have hq : FloatOps.sitofp (F := Ideal) .bf16 (IntOp.subi (IntOp.xori (if h : i.val % 2 < 1 then
        IntOp.andi (BitVec.setWidth 32 (wp (ix2 ⟨i.val / 2, by omega⟩ o))) 15#32
      else IntOp.shrsi ArithUnit.vector (BitVec.setWidth 32 (wp (ix2 ⟨i.val / 2, by omega⟩ o))) 4#32) 8#32) 8#32)
      = q (wp (ix2 ⟨i.val / 2, by omega⟩ o)) (i.val % 2) := by
    refine Eq.trans (congrArg (fun z : ℤ => (((z : ℝ)) : EReal)) (code_word (wp (ix2 ⟨i.val / 2, by omega⟩ o)) ⟨i.val % 2, by omega⟩)) ?_
    rw [q]
    push_cast
    rfl
  rw [← hq]
  pointwise [k0_pay1, half]

end Cert.ReferenceIdeal.Gen
-- ==== Proof.RefRun.lean ====
/-
  What the reference computes, over the extended reals: its one point reads the whole arguments and stores the mathematics of
  them.
-/
module

public import proofs.«01_k».proof.Proof.RefPay
public import proofs.«01_k».proof.Proof.Guard
public import Idealize.ShloMosaic.Lib.Pipeline.Value
public import Idealize.ShloMosaic.Lib.StableHlo.ReadAt

@[expose] public section

set_option maxRecDepth 16384
noncomputable section

namespace Cert.ReferenceIdeal.Gen

open Idealize.ShloMosaic Idealize.ShloMosaic.TcCoe Idealize.SL.Sem
open scoped BigOperators

variable (m : (ℓ : Loc nD τ sig) → Buf (Elt Ideal) ℓ) (ρ : Dev nD → PrngReg) (c : Dev nD)

/-- The arguments of the reference's program, as functions. -/
def ins (c : Dev nD) : Ins where
  dy t o := (m ((c : Thread nD τ).loc main_arg0) : FVec Ideal S24x512x8192 .bf16) (ix3 t.1 t.2 o)
  x t i := (m ((c : Thread nD τ).loc main_arg1) : FVec Ideal S24x512x2048 .fp8e4m3) (ix3 t.1 t.2 i)
  xs t := (m ((c : Thread nD τ).loc main_arg2) : FVec Ideal S24x512 .f32) (ix2 t.1 t.2)
  wp k o := (m ((c : Thread nD τ).loc main_arg3) : IVec S1024x8192 8) (ix2 k o)
  ws k o := (m ((c : Thread nD τ).loc main_arg4) : FVec Ideal S16x8192 .bf16) (ix2 k o)
  a i r := (m ((c : Thread nD τ).loc main_arg5) : FVec Ideal S2048x8 .bf16) (ix2 i r)
  b r o := (m ((c : Thread nD τ).loc main_arg6) : FVec Ideal S8x8192 .bf16) (ix2 r o)
  mg o := (m ((c : Thread nD τ).loc main_arg7) : FVec Ideal S8192 .f32) (ix1 o)
  cn o := (m ((c : Thread nD τ).loc main_arg8) : FVec Ideal S8192 .f32) (ix1 o)

theorem hz1 : (![0] : Fin 1 → Nat) = fun _ => 0 := funext fun a => by match a with | ⟨0, _⟩ => rfl
theorem hz2 : (![0, 0] : Fin 2 → Nat) = fun _ => 0 := funext fun a => by match a with | ⟨0, _⟩ => rfl | ⟨1, _⟩ => rfl
theorem hz3 : (![0, 0, 0] : Fin 3 → Nat) = fun _ => 0 := funext fun a => by match a with | ⟨0, _⟩ => rfl | ⟨1, _⟩ => rfl | ⟨2, _⟩ => rfl

/-! ### Each input window's one block is its whole array -/

theorem blk0 (t : Fin cfg0.N) : (iblk m c 0 t : FVec Ideal S24x512x8192 .bf16) = m ((c : Thread nD τ).loc main_arg0) := by
  funext (j : S24x512x8192.Idx)
  unfold iblk
  rw [View.read_apply]
  show m ((c : Thread nD τ).loc main_arg0) _ = _
  refine congrArg (m ((c : Thread nD τ).loc main_arg0)) ?_
  funext a
  apply Fin.ext
  match a with
  | ⟨0, _⟩ => show 0 * 24 + 1 * (j 0).val = (j 0).val; omega
  | ⟨1, _⟩ => show 0 * 512 + 1 * (j 1).val = (j 1).val; omega
  | ⟨2, _⟩ => show 0 * 8192 + 1 * (j 2).val = (j 2).val; omega

theorem blk1 (t : Fin cfg0.N) : (iblk m c 1 t : FVec Ideal S24x512x2048 .fp8e4m3) = m ((c : Thread nD τ).loc main_arg1) := by
  funext (j : S24x512x2048.Idx)
  unfold iblk
  rw [View.read_apply]
  show m ((c : Thread nD τ).loc main_arg1) _ = _
  refine congrArg (m ((c : Thread nD τ).loc main_arg1)) ?_
  funext a
  apply Fin.ext
  match a with
  | ⟨0, _⟩ => show 0 * 24 + 1 * (j 0).val = (j 0).val; omega
  | ⟨1, _⟩ => show 0 * 512 + 1 * (j 1).val = (j 1).val; omega
  | ⟨2, _⟩ => show 0 * 2048 + 1 * (j 2).val = (j 2).val; omega

theorem blk2 (t : Fin cfg0.N) : (iblk m c 2 t : FVec Ideal S24x512 .f32) = m ((c : Thread nD τ).loc main_arg2) := by
  funext (j : S24x512.Idx)
  unfold iblk
  rw [View.read_apply]
  show m ((c : Thread nD τ).loc main_arg2) _ = _
  refine congrArg (m ((c : Thread nD τ).loc main_arg2)) ?_
  funext a
  apply Fin.ext
  match a with
  | ⟨0, _⟩ => show 0 * 24 + 1 * (j 0).val = (j 0).val; omega
  | ⟨1, _⟩ => show 0 * 512 + 1 * (j 1).val = (j 1).val; omega

theorem blk3 (t : Fin cfg0.N) : (iblk m c 3 t : IVec S1024x8192 8) = m ((c : Thread nD τ).loc main_arg3) := by
  funext (j : S1024x8192.Idx)
  unfold iblk
  rw [View.read_apply]
  show m ((c : Thread nD τ).loc main_arg3) _ = _
  refine congrArg (m ((c : Thread nD τ).loc main_arg3)) ?_
  funext a
  apply Fin.ext
  match a with
  | ⟨0, _⟩ => show 0 * 1024 + 1 * (j 0).val = (j 0).val; omega
  | ⟨1, _⟩ => show 0 * 8192 + 1 * (j 1).val = (j 1).val; omega

theorem blk4 (t : Fin cfg0.N) : (iblk m c 4 t : FVec Ideal S16x8192 .bf16) = m ((c : Thread nD τ).loc main_arg4) := by
  funext (j : S16x8192.Idx)
  unfold iblk
  rw [View.read_apply]
  show m ((c : Thread nD τ).loc main_arg4) _ = _
  refine congrArg (m ((c : Thread nD τ).loc main_arg4)) ?_
  funext a
  apply Fin.ext
  match a with
  | ⟨0, _⟩ => show 0 * 16 + 1 * (j 0).val = (j 0).val; omega
  | ⟨1, _⟩ => show 0 * 8192 + 1 * (j 1).val = (j 1).val; omega

theorem blk5 (t : Fin cfg0.N) : (iblk m c 5 t : FVec Ideal S2048x8 .bf16) = m ((c : Thread nD τ).loc main_arg5) := by
  funext (j : S2048x8.Idx)
  unfold iblk
  rw [View.read_apply]
  show m ((c : Thread nD τ).loc main_arg5) _ = _
  refine congrArg (m ((c : Thread nD τ).loc main_arg5)) ?_
  funext a
  apply Fin.ext
  match a with
  | ⟨0, _⟩ => show 0 * 2048 + 1 * (j 0).val = (j 0).val; omega
  | ⟨1, _⟩ => show 0 * 8 + 1 * (j 1).val = (j 1).val; omega

theorem blk6 (t : Fin cfg0.N) : (iblk m c 6 t : FVec Ideal S8x8192 .bf16) = m ((c : Thread nD τ).loc main_arg6) := by
  funext (j : S8x8192.Idx)
  unfold iblk
  rw [View.read_apply]
  show m ((c : Thread nD τ).loc main_arg6) _ = _
  refine congrArg (m ((c : Thread nD τ).loc main_arg6)) ?_
  funext a
  apply Fin.ext
  match a with
  | ⟨0, _⟩ => show 0 * 8 + 1 * (j 0).val = (j 0).val; omega
  | ⟨1, _⟩ => show 0 * 8192 + 1 * (j 1).val = (j 1).val; omega

theorem blk7 (t : Fin cfg0.N) : (iblk m c 7 t : FVec Ideal S8192 .f32) = m ((c : Thread nD τ).loc main_arg7) := by
  funext (j : S8192.Idx)
  unfold iblk
  rw [View.read_apply]
  show m ((c : Thread nD τ).loc main_arg7) _ = _
  refine congrArg (m ((c : Thread nD τ).loc main_arg7)) ?_
  funext a
  apply Fin.ext
  match a with
  | ⟨0, _⟩ => show 0 * 8192 + 1 * (j 0).val = (j 0).val; omega

theorem blk8 (t : Fin cfg0.N) : (iblk m c 8 t : FVec Ideal S8192 .f32) = m ((c : Thread nD τ).loc main_arg8) := by
  funext (j : S8192.Idx)
  unfold iblk
  rw [View.read_apply]
  show m ((c : Thread nD τ).loc main_arg8) _ = _
  refine congrArg (m ((c : Thread nD τ).loc main_arg8)) ?_
  funext a
  apply Fin.ext
  match a with
  | ⟨0, _⟩ => show 0 * 8192 + 1 * (j 0).val = (j 0).val; omega

/-! ### What the point stores -/

abbrev A0 : FVec Ideal S24x512x8192 .bf16 := m ((c : Thread nD τ).loc main_arg0)
abbrev A1 : FVec Ideal S24x512x2048 .fp8e4m3 := m ((c : Thread nD τ).loc main_arg1)
abbrev A2 : FVec Ideal S24x512 .f32 := m ((c : Thread nD τ).loc main_arg2)
abbrev A3 : IVec S1024x8192 8 := m ((c : Thread nD τ).loc main_arg3)
abbrev A4 : FVec Ideal S16x8192 .bf16 := m ((c : Thread nD τ).loc main_arg4)
abbrev A5 : FVec Ideal S2048x8 .bf16 := m ((c : Thread nD τ).loc main_arg5)
abbrev A6 : FVec Ideal S8x8192 .bf16 := m ((c : Thread nD τ).loc main_arg6)
abbrev A7 : FVec Ideal S8192 .f32 := m ((c : Thread nD τ).loc main_arg7)
abbrev A8 : FVec Ideal S8192 .f32 := m ((c : Thread nD τ).loc main_arg8)

/-- The adapted weight the reference builds. -/
def W : FVec Ideal S2048x8192 .bf16 := k0_pay1 (F := Ideal) (A3 m c) (A4 m c) (A5 m c) (A6 m c)

theorem W_at (i : Fin 2048) (o : Fin 8192) : W m c (ix2 i o) = (ins m c).v i o := pay1_at _ _ _ _ i o

theorem dyp_at (s : Fin 24) (p : Fin 512) (o : Fin 8192) :
    k0_pay4 (F := Ideal) (k0_pay2 (F := Ideal) (A7 m c) (A8 m c)) (k0_pay3 (F := Ideal) (A0 m c)) (ix3 s p o) = (ins m c).dyp (s, p) o :=
  pay4_at _ _ _ s p o

/-- The input's cotangent. -/
def resDx : FVec Ideal S24x512x2048 .bf16 := fun j => (ins m c).dx (j 0, j 1) (j 2)
/-- The cotangent of the low-rank factor `lora_a`. -/
def resDa : FVec Ideal S2048x8 .bf16 := fun j => (ins m c).da (j 0) (j 1)
/-- The cotangent of the low-rank factor `lora_b`. -/
def resDb : FVec Ideal S8x8192 .bf16 := fun j => (ins m c).db (j 0) (j 1)
/-- The cotangent of the magnitudes. -/
def resDm : FVec Ideal S8192 .f32 := fun j => (ins m c).dm (j 0)
/-- The same, with the division inside the sum. -/
def resDmR : FVec Ideal S8192 .f32 := fun j => (ins m c).dmR (j 0)

theorem pay5_eq : k0_pay5 (F := Ideal) (W m c) (k0_pay2 (F := Ideal) (A7 m c) (A8 m c)) (k0_pay3 (F := Ideal) (A0 m c)) = resDx m c := by
  funext (j : S24x512x2048.Idx)
  obtain ⟨s, p, i, rfl⟩ : ∃ s p i, j = ix3 s p i := ⟨j 0, j 1, j 2, eq_ix3 j⟩
  rw [pay5_at]
  simp only [dyp_at, W_at]
  rfl

theorem pay7_eq (o : Fin 8192) :
    k0_pay7 (F := Ideal) (A0 m c) (A1 m c) (A2 m c) (A8 m c) (W m c) (ix1 o) = (ins m c).dmR o := by
  rw [pay7_at]
  simp only [W_at]
  rfl

theorem pay8_eq (he : ∀ o, (ins m c).dmR o = (ins m c).dm o) (i : Fin 2048) (o : Fin 8192) :
    k0_pay8 (F := Ideal) (A0 m c) (A1 m c) (A2 m c) (A7 m c) (A8 m c) (W m c) (ix2 i o) = (ins m c).v i o * (ins m c).cc o := by
  rw [pay8_at, pay7_eq m c, he, W_at]
  rfl

theorem pay9_eq (he : ∀ o, (ins m c).dmR o = (ins m c).dm o) :
    k0_pay9 (F := Ideal) (A0 m c) (A1 m c) (A2 m c) (A6 m c) (A7 m c) (A8 m c) (W m c) (k0_pay2 (F := Ideal) (A7 m c) (A8 m c))
      (k0_pay3 (F := Ideal) (A0 m c)) = resDa m c := by
  funext (j : S2048x8.Idx)
  obtain ⟨i, r, rfl⟩ : ∃ i r, j = ix2 i r := ⟨j 0, j 1, eq_ix2 j⟩
  rw [pay9_at]
  simp only [dyp_at, pay8_eq m c he]
  rfl

theorem pay10_eq (he : ∀ o, (ins m c).dmR o = (ins m c).dm o) :
    k0_pay10 (F := Ideal) (A0 m c) (A1 m c) (A2 m c) (A5 m c) (A7 m c) (A8 m c) (W m c) (k0_pay2 (F := Ideal) (A7 m c) (A8 m c))
      (k0_pay3 (F := Ideal) (A0 m c)) = resDb m c := by
  funext (j : S8x8192.Idx)
  obtain ⟨r, o, rfl⟩ : ∃ r o, j = ix2 r o := ⟨j 0, j 1, eq_ix2 j⟩
  rw [pay10_at]
  simp only [dyp_at, pay8_eq m c he]
  rfl

theorem after9 (t : Fin cfg0.N) : (dats m 0 c).after 9 t = resDx m c := by
  rw [after0_9]
  unfold_out out0_9
  rw [View.canon_unit_zero hz3, ← pay5_eq]
  simp only [View.ld_unit_zero (S := S24x512x8192) hz3, View.ld_unit_zero (S := S1024x8192) hz2, View.ld_unit_zero (S := S16x8192) hz2,
    View.ld_unit_zero (S := S2048x8) hz2, View.ld_unit_zero (S := S8x8192) hz2, View.ld_unit_zero (S := S8192) hz1,
    blk0, blk3, blk4, blk5, blk6, blk7, blk8]
  rfl

theorem after10 (he : ∀ o, (ins m c).dmR o = (ins m c).dm o) (t : Fin cfg0.N) : (dats m 0 c).after 10 t = resDa m c := by
  rw [after0_10]
  unfold_out out0_10
  rw [View.canon_unit_zero hz2, ← pay9_eq m c he]
  simp only [View.ld_unit_zero (S := S24x512x8192) hz3, View.ld_unit_zero (S := S24x512x2048) hz3, View.ld_unit_zero (S := S24x512) hz2,
    View.ld_unit_zero (S := S1024x8192) hz2, View.ld_unit_zero (S := S16x8192) hz2,
    View.ld_unit_zero (S := S2048x8) hz2, View.ld_unit_zero (S := S8x8192) hz2, View.ld_unit_zero (S := S8192) hz1,
    blk0, blk1, blk2, blk3, blk4, blk5, blk6, blk7, blk8]
  rfl

theorem after11 (he : ∀ o, (ins m c).dmR o = (ins m c).dm o) (t : Fin cfg0.N) : (dats m 0 c).after 11 t = resDb m c := by
  rw [after0_11]
  unfold_out out0_11
  rw [View.canon_unit_zero hz2, ← pay10_eq m c he]
  simp only [View.ld_unit_zero (S := S24x512x8192) hz3, View.ld_unit_zero (S := S24x512x2048) hz3, View.ld_unit_zero (S := S24x512) hz2,
    View.ld_unit_zero (S := S1024x8192) hz2, View.ld_unit_zero (S := S16x8192) hz2,
    View.ld_unit_zero (S := S2048x8) hz2, View.ld_unit_zero (S := S8x8192) hz2, View.ld_unit_zero (S := S8192) hz1,
    blk0, blk1, blk2, blk3, blk4, blk5, blk6, blk7, blk8]
  rfl

theorem after12 (t : Fin cfg0.N) : (dats m 0 c).after 12 t = resDmR m c := by
  rw [after0_12]
  unfold_out out0_12
  rw [View.canon_unit_zero hz1]
  funext (j : S8192.Idx)
  obtain ⟨o, rfl⟩ : ∃ o, j = ix1 o := ⟨j 0, eq_ix1 j⟩
  refine Eq.trans ?_ (pay7_eq m c o)
  simp only [View.ld_unit_zero (S := S24x512x8192) hz3, View.ld_unit_zero (S := S24x512x2048) hz3, View.ld_unit_zero (S := S24x512) hz2,
    View.ld_unit_zero (S := S1024x8192) hz2, View.ld_unit_zero (S := S16x8192) hz2,
    View.ld_unit_zero (S := S2048x8) hz2, View.ld_unit_zero (S := S8x8192) hz2, View.ld_unit_zero (S := S8192) hz1,
    blk0, blk1, blk2, blk3, blk4, blk5, blk6, blk7, blk8]
  rfl

/-! ### The arrays after the run -/

theorem final9 : (dats m 0 c).arrAt 9 cfg0.N = resDx m c :=
  (dats m 0 c).arrAt_eq_of_cover 9 (resDx m c) (fun t hf => by
    show (dats m 0 c).after 9 t = _
    rw [after9 m c]
    funext (j : S24x512x2048.Idx)
    rw [View.read_apply]
    refine congrArg (resDx m c) ?_
    funext a
    apply Fin.ext
    match a with
    | ⟨0, _⟩ => show (j 0).val = 0 * 24 + 1 * (j 0).val; omega
    | ⟨1, _⟩ => show (j 1).val = 0 * 512 + 1 * (j 1).val; omega
    | ⟨2, _⟩ => show (j 2).val = 0 * 2048 + 1 * (j 2).val; omega) fun (i : S24x512x2048.Idx) => by
    have h0 : (i 0).val < 24 := (i 0).isLt
    have h1 : (i 1).val < 512 := (i 1).isLt
    have h2 : (i 2).val < 2048 := (i 2).isLt
    refine ⟨t0_0, flush0_9 t0_0, ?_⟩
    show i ∈ ((View.whole main_v0_0).slice (win0_9.rect t0_0)).set
    rw [View.set_slice_whole, Rect.mem_set_unit]
    intro a
    match a with
    | ⟨0, _⟩ => show 0 * 24 ≤ (i 0).val ∧ (i 0).val < 0 * 24 + 24; omega
    | ⟨1, _⟩ => show 0 * 512 ≤ (i 1).val ∧ (i 1).val < 0 * 512 + 512; omega
    | ⟨2, _⟩ => show 0 * 2048 ≤ (i 2).val ∧ (i 2).val < 0 * 2048 + 2048; omega

theorem final10 (he : ∀ o, (ins m c).dmR o = (ins m c).dm o) : (dats m 0 c).arrAt 10 cfg0.N = resDa m c :=
  (dats m 0 c).arrAt_eq_of_cover 10 (resDa m c) (fun t hf => by
    show (dats m 0 c).after 10 t = _
    rw [after10 m c he]
    funext (j : S2048x8.Idx)
    rw [View.read_apply]
    refine congrArg (resDa m c) ?_
    funext a
    apply Fin.ext
    match a with
    | ⟨0, _⟩ => show (j 0).val = 0 * 2048 + 1 * (j 0).val; omega
    | ⟨1, _⟩ => show (j 1).val = 0 * 8 + 1 * (j 1).val; omega) fun (i : S2048x8.Idx) => by
    have h0 : (i 0).val < 2048 := (i 0).isLt
    have h1 : (i 1).val < 8 := (i 1).isLt
    refine ⟨t0_0, flush0_10 t0_0, ?_⟩
    show i ∈ ((View.whole main_v0_1).slice (win0_10.rect t0_0)).set
    rw [View.set_slice_whole, Rect.mem_set_unit]
    intro a
    match a with
    | ⟨0, _⟩ => show 0 * 2048 ≤ (i 0).val ∧ (i 0).val < 0 * 2048 + 2048; omega
    | ⟨1, _⟩ => show 0 * 8 ≤ (i 1).val ∧ (i 1).val < 0 * 8 + 8; omega

theorem final11 (he : ∀ o, (ins m c).dmR o = (ins m c).dm o) : (dats m 0 c).arrAt 11 cfg0.N = resDb m c :=
  (dats m 0 c).arrAt_eq_of_cover 11 (resDb m c) (fun t hf => by
    show (dats m 0 c).after 11 t = _
    rw [after11 m c he]
    funext (j : S8x8192.Idx)
    rw [View.read_apply]
    refine congrArg (resDb m c) ?_
    funext a
    apply Fin.ext
    match a with
    | ⟨0, _⟩ => show (j 0).val = 0 * 8 + 1 * (j 0).val; omega
    | ⟨1, _⟩ => show (j 1).val = 0 * 8192 + 1 * (j 1).val; omega) fun (i : S8x8192.Idx) => by
    have h0 : (i 0).val < 8 := (i 0).isLt
    have h1 : (i 1).val < 8192 := (i 1).isLt
    refine ⟨t0_0, flush0_11 t0_0, ?_⟩
    show i ∈ ((View.whole main_v0_2).slice (win0_11.rect t0_0)).set
    rw [View.set_slice_whole, Rect.mem_set_unit]
    intro a
    match a with
    | ⟨0, _⟩ => show 0 * 8 ≤ (i 0).val ∧ (i 0).val < 0 * 8 + 8; omega
    | ⟨1, _⟩ => show 0 * 8192 ≤ (i 1).val ∧ (i 1).val < 0 * 8192 + 8192; omega

theorem final12 : (dats m 0 c).arrAt 12 cfg0.N = resDmR m c :=
  (dats m 0 c).arrAt_eq_of_cover 12 (resDmR m c) (fun t hf => by
    show (dats m 0 c).after 12 t = _
    rw [after12 m c]
    funext (j : S8192.Idx)
    rw [View.read_apply]
    refine congrArg (resDmR m c) ?_
    funext a
    apply Fin.ext
    match a with
    | ⟨0, _⟩ => show (j 0).val = 0 * 8192 + 1 * (j 0).val; omega) fun (i : S8192.Idx) => by
    have h0 : (i 0).val < 8192 := (i 0).isLt
    refine ⟨t0_0, flush0_12 t0_0, ?_⟩
    show i ∈ ((View.whole main_v0_3).slice (win0_12.rect t0_0)).set
    rw [View.set_slice_whole, Rect.mem_set_unit]
    intro a
    match a with
    | ⟨0, _⟩ => show 0 * 8192 ≤ (i 0).val ∧ (i 0).val < 0 * 8192 + 8192; omega

/-- The cotangent of `lora_a` as the region leaves it. -/
def outDa : FVec Ideal S2048x8 .bf16 := (dats m 0 c).arrAt 10 cfg0.N

theorem outDa_eq (he : ∀ o, (ins m c).dmR o = (ins m c).dm o) : outDa m c = resDa m c := final10 m c he

/-! ### What the host makes of them -/

/-- The windows' arrays are distinct buffers. -/
theorem arr_inj : Function.Injective (Pipeline.arrRef spec0) := by decide

/-- The guarded cotangent of `lora_a`, as the host makes it. -/
theorem after_main_v7 : Pipeline.afterTail₀ cfgs (dats m) 0 (V0 m) [hostOps1] c main_v7
    = guarded bcast_S_S8192 reducesTo_S8192_S_d0 h_S_ bcast_S_S2048x8 (resDmR m c) (outDa m c) := by
  rw [← final12 m c]
  unfold Pipeline.afterTail₀
  after_reads_simp
  unfold guarded allFinite
  have h10 := Pipeline.withArrays_arr spec0 arr_inj c (V0 m c) (fun w => (dats m 0 c).arrAt w cfg0.N) 10
  have h12 := Pipeline.withArrays_arr spec0 arr_inj c (V0 m c) (fun w => (dats m 0 c).arrAt w cfg0.N) 12
  exact congrArg₂ (fun (e : FVec Ideal S8192 .f32) (d : FVec Ideal S2048x8 .bf16) =>
    select (broadcastInDim S2048x8 ![] bcast_S_S2048x8 (Host.reduce IntOp.andi (cmpf .olt (Host.absf e)
      (broadcastInDim S8192 ![] bcast_S_S8192 (constant S_ .f32 0x7F800000#32))) (constantI S_ 1 1#1) reducesTo_S8192_S_d0 h_S_)) d
      (broadcastInDim S2048x8 ![] bcast_S_S2048x8 (constant S_ .bf16 0x0000#16))) h12 h10

/-- Every run ends with the input's cotangent at the sum the mathematics names. -/
theorem values_dx : θ_run defs (onTc (τ := τ) (main (F := Ideal))) ⟨m, fun _ => 0, ρ⟩ (fun r => ∀ c : Dev nD,
      r.2.mem ((c.tc : Thread nD τ).loc main_v0_0) = resDx m c) :=
  (θ_run defs _ _).mono (fun r h c => ((h c).1 9).trans (final9 m c)) (run_main m ρ)

/-- Every run ends with the cotangents of `lora_b` and of the magnitudes at the sums the mathematics names, where the division of
    the latter goes out of its sum. -/
theorem values (he : ∀ c o, (ins m c).dmR o = (ins m c).dm o) : θ_run defs (onTc (τ := τ) (main (F := Ideal))) ⟨m, fun _ => 0, ρ⟩ (fun r => ∀ c : Dev nD,
      r.2.mem ((c.tc : Thread nD τ).loc main_v0_2) = resDb m c
      ∧ r.2.mem ((c.tc : Thread nD τ).loc main_v0_3) = resDm m c) :=
  (θ_run defs _ _).mono (fun r h c => ⟨((h c).1 11).trans (final11 m c (he c)),
    (((h c).1 12).trans (final12 m c)).trans (funext fun j => he c (j 0))⟩) (run_main m ρ)

/-- Every run ends with the guarded cotangent of `lora_a` at what the guard makes of the reference's. -/
theorem values_da : θ_run defs (onTc (τ := τ) (main (F := Ideal))) ⟨m, fun _ => 0, ρ⟩ (fun r => ∀ c : Dev nD,
      r.2.mem ((c.tc : Thread nD τ).loc main_v7)
        = guarded bcast_S_S8192 reducesTo_S8192_S_d0 h_S_ bcast_S_S2048x8 (resDmR m c) (outDa m c)) :=
  (θ_run defs _ _).mono (fun r h c =>
    ((h c).2 main_v7 (Pipeline.mem_restRefs_of main_v7 (by decide) (by decide))).trans (after_main_v7 m c)) (run_main m ρ)

end Cert.ReferenceIdeal.Gen
-- ==== Proof.Algebra.lean ====
/-
  The kernel and the reference compute the same function over the extended reals: the input's cotangent; the second
  adapter matrix's and the magnitudes', where the column norms are positive; and, where the weights' scales, the adapter matrices
  and the magnitudes are finite, the first adapter matrix's cotangent, guarded by the finiteness of the magnitudes'.
-/
module

public import proofs.«01_k».proof.Defs
public import proofs.«01_k».proof.Proof.KernelRun
public import proofs.«01_k».proof.Proof.RefRun
public import Idealize.ShloMosaic.Lib.Claim

@[expose] public section

set_option maxRecDepth 16384
noncomputable section

namespace Cert

open Idealize.ShloMosaic Idealize.ShloMosaic.TcCoe Idealize.SL.Sem

/-- The side conditions of the precondition's operations. -/
theorem preFacts : Cert.Pre_norms_positive.Facts where
  bcast_S_S8192 := by decide

/-- The side conditions of the second precondition's operations. -/
theorem preFacts' : Cert.Pre_weights_finite.Facts where
  bcast_S_S8192 := by decide
  bcast_S_S16x8192 := by decide
  bcast_S_S2048x8 := by decide
  bcast_S_S8x8192 := by decide

/-- The side conditions of the mask's operations: dx. -/
theorem onDx : Cert.On_only_dx.Facts where
  bcast_S_S24x512x2048 := by decide
  bcast_S_S2048x8 := by decide
  bcast_S_S8x8192 := by decide
  bcast_S_S8192 := by decide

/-- The side conditions of the mask's operations: dB and dm. -/
theorem onDbDm : Cert.On_db_and_dm.Facts where
  bcast_S_S24x512x2048 := by decide
  bcast_S_S2048x8 := by decide
  bcast_S_S8x8192 := by decide
  bcast_S_S8192 := by decide

/-- The side conditions of the mask's operations: the guarded dA. -/
theorem onDa : Cert.On_guarded_da.Facts where
  bcast_S_S24x512x2048 := by decide
  bcast_S_S2048x8 := by decide
  bcast_S_S8x8192 := by decide
  bcast_S_S8192 := by decide

instance : Cert.Pre_norms_positive.Facts := preFacts
instance : Cert.On_only_dx.Facts := onDx
instance : Cert.On_db_and_dm.Facts := onDbDm
instance : Cert.Pre_weights_finite.Facts := preFacts'
instance : Cert.On_guarded_da.Facts := onDa

/-- The comparison finds a number above zero only if it is. -/
theorem pos_of_cmp {x : EReal} (e : Ideal.cmp .ogt x (Ideal.ofBits .f32 0x00000000#32) = 1#1) : 0 < x := by
  rw [Ideal.ofBits_zero_f32] at e
  by_contra hn
  have e' : Ideal.cmp .ogt x 0 = 0#1 := by
    unfold Ideal.cmp
    simp only [hn, decide_false, gt_iff_lt]
    rfl
  rw [e'] at e
  exact absurd e (by decide)

/-- What the precondition says of the column norms. -/
theorem norms_positive (m : (ℓ : Loc KernelIdeal.nD KernelIdeal.τ KernelIdeal.sig) → Buf (Elt Ideal) ℓ) (h : Pre_KernelIdeal_norms_positive m)
    (c : Dev KernelIdeal.nD) (o : Fin 8192) : 0 < (KernelIdeal.Gen.ins m c).cn o := by
  have e : Ideal.cmp .ogt ((KernelIdeal.Gen.ins m c).cn o) (Ideal.ofBits .f32 0x00000000#32) = 1#1 := congrFun (h c) (ix1 o)
  exact pos_of_cmp e

/-- What the second precondition says of the weights. -/
theorem weights_finite (m : (ℓ : Loc KernelIdeal.nD KernelIdeal.τ KernelIdeal.sig) → Buf (Elt Ideal) ℓ) (h : Pre_KernelIdeal_weights_finite m)
    (c : Dev KernelIdeal.nD) : (KernelIdeal.Gen.ins m c).WeightsFinite where
  ws k o := by
    have e : Ideal.cmp .olt (max ((KernelIdeal.Gen.ins m c).ws k o) (-(KernelIdeal.Gen.ins m c).ws k o)) (Ideal.ofBits .bf16 0x7F80#16) = 1#1 :=
      congrFun (h c).1 (ix2 k o)
    exact real_of_abs_lt inf_bf16 e
  a i r := by
    have e : Ideal.cmp .olt (max ((KernelIdeal.Gen.ins m c).a i r) (-(KernelIdeal.Gen.ins m c).a i r)) (Ideal.ofBits .bf16 0x7F80#16) = 1#1 :=
      congrFun (h c).2.1 (ix2 i r)
    exact real_of_abs_lt inf_bf16 e
  b r o := by
    have e : Ideal.cmp .olt (max ((KernelIdeal.Gen.ins m c).b r o) (-(KernelIdeal.Gen.ins m c).b r o)) (Ideal.ofBits .bf16 0x7F80#16) = 1#1 :=
      congrFun (h c).2.2.1 (ix2 r o)
    exact real_of_abs_lt inf_bf16 e
  mg o := by
    have e : Ideal.cmp .olt (max ((KernelIdeal.Gen.ins m c).mg o) (-(KernelIdeal.Gen.ins m c).mg o)) (Ideal.ofBits .f32 0x7F800000#32) = 1#1 :=
      congrFun (h c).2.2.2 (ix1 o)
    exact real_of_abs_lt inf_f32 e

set_option maxHeartbeats 1000000 in
/-- The input's cotangent is the reference's, whatever the arguments. -/
theorem algebra_dx : algebraic_KernelIdeal_ReferenceIdeal_on_only_dx := by
  intro m g m' g' _ hargs
  have hin : ∀ c, KernelIdeal.Gen.ins m c = ReferenceIdeal.Gen.ins m' c := fun c => by
    obtain ⟨e0, e1, e2, e3, e4, e5, e6, e7, e8⟩ := hargs c
    unfold KernelIdeal.Gen.ins ReferenceIdeal.Gen.ins
    rw [e0, e1, e2, e3, e4, e5, e6, e7, e8]
  refine ⟨KernelIdeal.Gen.resDx m, fun c => m' ((c.tc : Thread ReferenceIdeal.nD ReferenceIdeal.τ).loc ReferenceIdeal.main_v0_1),
    fun c => m' ((c.tc : Thread ReferenceIdeal.nD ReferenceIdeal.τ).loc ReferenceIdeal.main_v0_2),
    fun c => m' ((c.tc : Thread ReferenceIdeal.nD ReferenceIdeal.τ).loc ReferenceIdeal.main_v0_3),
    fun c => m' ((c.tc : Thread ReferenceIdeal.nD ReferenceIdeal.τ).loc ReferenceIdeal.main_v7), ?_, ?_⟩
  · refine (θ_run _ _ _).mono (fun r h c => ?_) (θ_run_and (KernelIdeal.Gen.values m g) (KernelIdeal.Gen.frame m g))
    obtain ⟨h1, -⟩ := h.1 c
    exact ⟨fun i _ => congrFun h1 i, fun i hi => absurd hi (by decide : ¬ (0#1 : BitVec 1) = 1#1),
      fun i hi => absurd hi (by decide : ¬ (0#1 : BitVec 1) = 1#1), fun i hi => absurd hi (by decide : ¬ (0#1 : BitVec 1) = 1#1),
      fun i hi => absurd hi (by decide : ¬ (0#1 : BitVec 1) = 1#1), h.2.1 c⟩
  · refine (θ_run _ _ _).mono (fun r h c => ?_) (θ_run_and (ReferenceIdeal.Gen.values_dx m' g') (ReferenceIdeal.Gen.frame m' g'))
    have h1 := h.1 c
    have e1 : (ReferenceIdeal.Gen.resDx m' c : _ → EReal) = KernelIdeal.Gen.resDx m c := by
      unfold ReferenceIdeal.Gen.resDx KernelIdeal.Gen.resDx; rw [hin c]
    exact ⟨fun i _ => (congrFun h1 i).trans (congrFun e1 i), fun i hi => absurd hi (by decide : ¬ (0#1 : BitVec 1) = 1#1),
      fun i hi => absurd hi (by decide : ¬ (0#1 : BitVec 1) = 1#1), fun i hi => absurd hi (by decide : ¬ (0#1 : BitVec 1) = 1#1),
      fun i hi => absurd hi (by decide : ¬ (0#1 : BitVec 1) = 1#1), h.2.1 c⟩

set_option maxHeartbeats 1000000 in
/-- The cotangents of `lora_b` and of the magnitudes are the reference's, where the norms are positive. -/
theorem algebra_db_dm : algebraic_KernelIdeal_ReferenceIdeal_on_db_and_dm_pre_norms_positive := by
  intro m g m' g' hpre hargs
  have hin : ∀ c, KernelIdeal.Gen.ins m c = ReferenceIdeal.Gen.ins m' c := fun c => by
    obtain ⟨e0, e1, e2, e3, e4, e5, e6, e7, e8⟩ := hargs c
    unfold KernelIdeal.Gen.ins ReferenceIdeal.Gen.ins
    rw [e0, e1, e2, e3, e4, e5, e6, e7, e8]
  refine ⟨fun c => m' ((c.tc : Thread ReferenceIdeal.nD ReferenceIdeal.τ).loc ReferenceIdeal.main_v0_0),
    fun c => m' ((c.tc : Thread ReferenceIdeal.nD ReferenceIdeal.τ).loc ReferenceIdeal.main_v0_1),
    KernelIdeal.Gen.resDb m, KernelIdeal.Gen.resDm m,
    fun c => m' ((c.tc : Thread ReferenceIdeal.nD ReferenceIdeal.τ).loc ReferenceIdeal.main_v7), ?_, ?_⟩
  · refine (θ_run _ _ _).mono (fun r h c => ?_) (θ_run_and (KernelIdeal.Gen.values m g) (KernelIdeal.Gen.frame m g))
    obtain ⟨-, h2, h3, -⟩ := h.1 c
    exact ⟨fun i hi => absurd hi (by decide : ¬ (0#1 : BitVec 1) = 1#1), fun i hi => absurd hi (by decide : ¬ (0#1 : BitVec 1) = 1#1),
      fun i _ => congrFun h2 i, fun i _ => congrFun h3 i, fun i hi => absurd hi (by decide : ¬ (0#1 : BitVec 1) = 1#1), h.2.1 c⟩
  · have he : ∀ c o, (ReferenceIdeal.Gen.ins m' c).dmR o = (ReferenceIdeal.Gen.ins m' c).dm o := fun c o =>
      sum_div_pos _ (by rw [← hin c]; exact norms_positive m hpre c o)
    refine (θ_run _ _ _).mono (fun r h c => ?_) (θ_run_and (ReferenceIdeal.Gen.values m' g' he) (ReferenceIdeal.Gen.frame m' g'))
    obtain ⟨h2, h3⟩ := h.1 c
    have e2 : (ReferenceIdeal.Gen.resDb m' c : _ → EReal) = KernelIdeal.Gen.resDb m c := by
      unfold ReferenceIdeal.Gen.resDb KernelIdeal.Gen.resDb; rw [hin c]
    have e3 : (ReferenceIdeal.Gen.resDm m' c : _ → EReal) = KernelIdeal.Gen.resDm m c := by
      unfold ReferenceIdeal.Gen.resDm KernelIdeal.Gen.resDm; rw [hin c]
    exact ⟨fun i hi => absurd hi (by decide : ¬ (0#1 : BitVec 1) = 1#1), fun i hi => absurd hi (by decide : ¬ (0#1 : BitVec 1) = 1#1),
      fun i _ => (congrFun h2 i).trans (congrFun e2 i), fun i _ => (congrFun h3 i).trans (congrFun e3 i), fun i hi => absurd hi (by decide : ¬ (0#1 : BitVec 1) = 1#1), h.2.1 c⟩

set_option maxHeartbeats 1000000 in
/-- The guarded cotangent of `lora_a` is the reference's. -/
theorem algebra_da : algebraic_KernelIdeal_ReferenceIdeal_on_guarded_da_pre_weights_finite := by
  intro m g m' g' hpre hargs
  have hin : ∀ c, KernelIdeal.Gen.ins m c = ReferenceIdeal.Gen.ins m' c := fun c => by
    obtain ⟨e0, e1, e2, e3, e4, e5, e6, e7, e8⟩ := hargs c
    unfold KernelIdeal.Gen.ins ReferenceIdeal.Gen.ins
    rw [e0, e1, e2, e3, e4, e5, e6, e7, e8]
  refine ⟨fun c => m' ((c.tc : Thread ReferenceIdeal.nD ReferenceIdeal.τ).loc ReferenceIdeal.main_v0_0),
    fun c => m' ((c.tc : Thread ReferenceIdeal.nD ReferenceIdeal.τ).loc ReferenceIdeal.main_v0_1),
    fun c => m' ((c.tc : Thread ReferenceIdeal.nD ReferenceIdeal.τ).loc ReferenceIdeal.main_v0_2),
    fun c => m' ((c.tc : Thread ReferenceIdeal.nD ReferenceIdeal.τ).loc ReferenceIdeal.main_v0_3),
    fun c => guarded (by decide) (by decide) (by decide) (by decide) (KernelIdeal.Gen.resDm m c) (KernelIdeal.Gen.O10 m c), ?_, ?_⟩
  · refine (θ_run _ _ _).mono (fun r h c => ?_) (θ_run_and (KernelIdeal.Gen.values m g) (KernelIdeal.Gen.frame m g))
    obtain ⟨-, -, -, h4⟩ := h.1 c
    exact ⟨fun i hi => absurd hi (by decide : ¬ (0#1 : BitVec 1) = 1#1), fun i hi => absurd hi (by decide : ¬ (0#1 : BitVec 1) = 1#1),
      fun i hi => absurd hi (by decide : ¬ (0#1 : BitVec 1) = 1#1), fun i hi => absurd hi (by decide : ¬ (0#1 : BitVec 1) = 1#1),
      fun i _ => congrFun h4 i, h.2.1 c⟩
  · refine (θ_run _ _ _).mono (fun r h c => ?_) (θ_run_and (ReferenceIdeal.Gen.values_da m' g') (ReferenceIdeal.Gen.frame m' g'))
    have h4 := h.1 c
    have key : (∀ o, IsReal (ReferenceIdeal.Gen.resDmR m' c o)) ∨ (∀ o, IsReal (KernelIdeal.Gen.resDm m c o)) →
        ReferenceIdeal.Gen.resDmR m' c = KernelIdeal.Gen.resDm m c
        ∧ ReferenceIdeal.Gen.outDa m' c = KernelIdeal.Gen.O10 m c := fun hd => by
      have he : ∀ o, (ReferenceIdeal.Gen.ins m' c).dmR o = (ReferenceIdeal.Gen.ins m' c).dm o := fun o =>
        sum_div_of_real _ _ (hd.imp (fun hd => hd (ix1 o)) fun hd => by rw [← hin c]; exact hd (ix1 o))
      have e3 : ReferenceIdeal.Gen.resDmR m' c = KernelIdeal.Gen.resDm m c := by
        funext (j : VecO.Idx)
        exact (he (j 0)).trans (by rw [← hin c]; rfl)
      have hd' : ∀ o, IsReal (KernelIdeal.Gen.resDm m c o) := hd.elim (fun hd => e3 ▸ hd) id
      refine ⟨e3, (ReferenceIdeal.Gen.outDa_eq m' c he).trans ?_⟩
      funext (j : MatA.Idx)
      obtain ⟨i, r, rfl⟩ : ∃ i r, j = ix2 i r := ⟨j 0, j 1, eq_ix2 j⟩
      refine Eq.trans ?_ (KernelIdeal.Gen.O10_at m c (weights_finite m hpre c) (fun o => hd' (ix1 o)) i r).symm
      show (ReferenceIdeal.Gen.ins m' c).da i r = _
      rw [hin c]
    exact ⟨fun i hi => absurd hi (by decide : ¬ (0#1 : BitVec 1) = 1#1), fun i hi => absurd hi (by decide : ¬ (0#1 : BitVec 1) = 1#1),
      fun i hi => absurd hi (by decide : ¬ (0#1 : BitVec 1) = 1#1), fun i hi => absurd hi (by decide : ¬ (0#1 : BitVec 1) = 1#1),
      fun i _ => (congrFun h4 i).trans (congrFun (guarded_congr _ _ _ _ _ _ _ _ key) i), h.2.1 c⟩

end Cert
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Launch
public import proofs.«01_k».proof.Proof.Low.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.preFacts, Cert.preFacts', Cert.onDx, Cert.onDbDm, Cert.onDa,
  fun m g _ => Cert.Kernel.Gen.frame m g,
  fun m g _ => Cert.KernelIdeal.Gen.frame m g,
  fun m g _ => Cert.KernelIdeal.Gen.frame m g,
  fun m g _ => Cert.KernelIdeal.Gen.frame m g,
  fun m g _ => Cert.ReferenceIdeal.Gen.frame m g,
  fun m g _ => Cert.ReferenceIdeal.Gen.frame m g,
  fun m g _ => Cert.ReferenceIdeal.Gen.frame m g,
  trivial,
  Cert.algebra_dx,
  Cert.algebra_db_dm,
  Cert.algebra_da⟩

end Cert.Proof

end
